-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_h" .f32 0x3B5A740E#32 ((1 / 300 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_c_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x300 : Shape := ⟨3, ![16, 128, 300]⟩
abbrev S25x50 : Shape := ⟨2, ![25, 50]⟩
abbrev S650x300 : Shape := ⟨2, ![650, 300]⟩
abbrev S300 : Shape := ⟨1, ![300]⟩
abbrev S300x1 : Shape := ⟨2, ![300, 1]⟩
abbrev S1 : Shape := ⟨1, ![1]⟩
abbrev S_ : Shape := ⟨0, ![]⟩

class Facts : Prop where
  bcast_S_S16x128x300 : S_.BroadcastsInDim S16x128x300 (![] : Fin 0 → Fin S16x128x300.rank)
  reducesTo_S16x128x300_S_d0_1_2 : S16x128x300.ReducesTo [0, 1, 2] S_
  h_S_ : 0 < S_.numel
  bcast_S_S25x50 : S_.BroadcastsInDim S25x50 (![] : Fin 0 → Fin S25x50.rank)
  reducesTo_S25x50_S_d0_1 : S25x50.ReducesTo [0, 1] S_
  bcast_S_S650x300 : S_.BroadcastsInDim S650x300 (![] : Fin 0 → Fin S650x300.rank)
  reducesTo_S650x300_S_d0_1 : S650x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S650x300 .f32) (main_arg5 : FVec F S300 .f32) (main_v13 : IVec S_ 1) (main_v16 : IVec S25x50 1) : IVec S_ 1 :=
  let main_c_5 : IVec S_ 1 := constantI S_ 1 1#1
  let main_v17 : IVec S_ 1 := (fun x v => Host.reduce IntOp.andi x v reducesTo_S25x50_S_d0_1 h_S_) main_v16 main_c_5
  let main_v18 : IVec S_ 1 := andi main_v13 main_v17
  let main_v19 : FVec F S650x300 .f32 := Host.absf main_arg4
  let main_cst_6 : FVec F S_ .f32 := constant S_ .f32 0x7F800000#32
  let main_v20 : FVec F S650x300 .f32 := broadcastInDim S650x300 ![] bcast_S_S650x300 main_cst_6
  let main_v21 : IVec S650x300 1 := cmpf .olt main_v19 main_v20
  let main_c_7 : IVec S_ 1 := constantI S_ 1 1#1
  let main_v22 : IVec S_ 1 := (fun x v => Host.reduce IntOp.andi x v reducesTo_S650x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S16x128x300 .f32) (main_arg1 : FVec F S16x128x300 .f32) (main_arg2 : FVec F S16x128x300 .f32) (main_arg3 : FVec F S25x50 .f32) (main_arg4 : FVec F S650x300 .f32) (main_arg5 : FVec F S300 .f32) (main_arg6 : FVec F S300 .f32) (main_arg7 : FVec F S300 .f32) (main_arg8 : FVec F S300x1 .f32) (main_arg9 : FVec F S1 .f32) : IVec S_ 1 :=
  let main_v0 : FVec F S16x128x300 .f32 := Host.absf main_arg0
  let main_cst : FVec F S_ .f32 := constant S_ .f32 0x7F800000#32
  let main_v1 : FVec F S16x128x300 .f32 := broadcastInDim S16x128x300 ![] bcast_S_S16x128x300 main_cst
  let main_v2 : IVec S16x128x300 1 := cmpf .olt main_v0 main_v1
  let main_c : IVec S_ 1 := constantI S_ 1 1#1
  let main_v3 : IVec S_ 1 := (fun x v => Host.reduce IntOp.andi x v reducesTo_S16x128x300_S_d0_1_2 h_S_) main_v2 main_c
  let main_v4 : FVec F S16x128x300 .f32 := Host.absf main_arg1
  let main_cst_0 : FVec F S_ .f32 := constant S_ .f32 0x7F800000#32
  let main_v5 : FVec F S16x128x300 .f32 := broadcastInDim S16x128x300 ![] bcast_S_S16x128x300 main_cst_0
  let main_v6 : IVec S16x128x300 1 := cmpf .olt main_v4 main_v5
  let main_c_1 : IVec S_ 1 := constantI S_ 1 1#1
  let main_v7 : IVec S_ 1 := (fun x v => Host.reduce IntOp.andi x v reducesTo_S16x128x300_S_d0_1_2 h_S_) main_v6 main_c_1
  let main_v8 : IVec S_ 1 := andi main_v3 main_v7
  let main_v9 : FVec F S16x128x300 .f32 := Host.absf main_arg2
  let main_cst_2 : FVec F S_ .f32 := constant S_ .f32 0x7F800000#32
  let main_v10 : FVec F S16x128x300 .f32 := broadcastInDim S16x128x300 ![] bcast_S_S16x128x300 main_cst_2
  let main_v11 : IVec S16x128x300 1 := cmpf .olt main_v9 main_v10
  let main_c_3 : IVec S_ 1 := constantI S_ 1 1#1
  let main_v12 : IVec S_ 1 := (fun x v => Host.reduce IntOp.andi x v reducesTo_S16x128x300_S_d0_1_2 h_S_) main_v11 main_c_3
  let main_v13 : IVec S_ 1 := andi main_v8 main_v12
  let main_v14 : FVec F S25x50 .f32 := Host.absf main_arg3
  let main_cst_4 : FVec F S_ .f32 := constant S_ .f32 0x7F800000#32
  let main_v15 : FVec F S25x50 .f32 := broadcastInDim S25x50 ![] bcast_S_S25x50 main_cst_4
  let main_v16 : IVec S25x50 1 := cmpf .olt main_v14 main_v15
  fn_part1 (F := F) main_arg4 main_arg5 main_v13 main_v16
-- ==== Kernel.lean ====
abbrev S16x128x300 : Shape := ⟨3, ![16, 128, 300]⟩
abbrev S25x50 : Shape := ⟨2, ![25, 50]⟩
abbrev S650x300 : Shape := ⟨2, ![650, 300]⟩
abbrev S300 : Shape := ⟨1, ![300]⟩
abbrev S300x1 : Shape := ⟨2, ![300, 1]⟩
abbrev S1 : Shape := ⟨1, ![1]⟩
abbrev S25 : Shape := ⟨1, ![25]⟩
abbrev S1x25 : Shape := ⟨2, ![1, 25]⟩
abbrev S49152 : Shape := ⟨1, ![49152]⟩
abbrev S3044x2 : Shape := ⟨2, ![3044, 2]⟩
abbrev S25x1 : Shape := ⟨2, ![25, 1]⟩
abbrev S25x25 : Shape := ⟨2, ![25, 25]⟩
abbrev S1x300 : Shape := ⟨2, ![1, 300]⟩
abbrev S1x1 : Shape := ⟨2, ![1, 1]⟩
abbrev S16x32x128 : Shape := ⟨3, ![16, 32, 128]⟩
abbrev S2x128x300 : Shape := ⟨3, ![2, 128, 300]⟩
abbrev S2x32x128 : Shape := ⟨3, ![2, 32, 128]⟩
abbrev S50x300 : Shape := ⟨2, ![50, 300]⟩
abbrev S25x300 : Shape := ⟨2, ![25, 300]⟩
abbrev S1x128x300 : Shape := ⟨3, ![1, 128, 300]⟩
abbrev S128x300 : Shape := ⟨2, ![128, 300]⟩
abbrev S300x300 : Shape := ⟨2, ![300, 300]⟩
abbrev S12x300 : Shape := ⟨2, ![12, 300]⟩
abbrev S116x300 : Shape := ⟨2, ![116, 300]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S11x300 : Shape := ⟨2, ![11, 300]⟩
abbrev S117x300 : Shape := ⟨2, ![117, 300]⟩
abbrev S10x300 : Shape := ⟨2, ![10, 300]⟩
abbrev S118x300 : Shape := ⟨2, ![118, 300]⟩
abbrev S9x300 : Shape := ⟨2, ![9, 300]⟩
abbrev S119x300 : Shape := ⟨2, ![119, 300]⟩
abbrev S8x300 : Shape := ⟨2, ![8, 300]⟩
abbrev S120x300 : Shape := ⟨2, ![120, 300]⟩
abbrev S7x300 : Shape := ⟨2, ![7, 300]⟩
abbrev S121x300 : Shape := ⟨2, ![121, 300]⟩
abbrev S6x300 : Shape := ⟨2, ![6, 300]⟩
abbrev S122x300 : Shape := ⟨2, ![122, 300]⟩
abbrev S5x300 : Shape := ⟨2, ![5, 300]⟩
abbrev S123x300 : Shape := ⟨2, ![123, 300]⟩
abbrev S4x300 : Shape := ⟨2, ![4, 300]⟩
abbrev S124x300 : Shape := ⟨2, ![124, 300]⟩
abbrev S3x300 : Shape := ⟨2, ![3, 300]⟩
abbrev S125x300 : Shape := ⟨2, ![125, 300]⟩
abbrev S2x300 : Shape := ⟨2, ![2, 300]⟩
abbrev S126x300 : Shape := ⟨2, ![126, 300]⟩
abbrev S127x300 : Shape := ⟨2, ![127, 300]⟩
abbrev S65536 : Shape := ⟨1, ![65536]⟩
abbrev S1536 : Shape := ⟨1, ![1536]⟩
abbrev S_ : Shape := ⟨0, ![]⟩
abbrev S16x3072 : Shape := ⟨2, ![16, 3072]⟩
abbrev S16x3044 : Shape := ⟨2, ![16, 3044]⟩

abbrev nBuf : Table → Nat
  | .hbm => 36
  | .local .tc .vmem => 14
  | .local .scVector .vmem => 2
  | _ => 0

abbrev bufTy : (tb : Table) → Fin (nBuf tb) → BufTy
  | .hbm, ⟨0, _⟩ => ⟨S16x128x300, .f32⟩
  | .hbm, ⟨1, _⟩ => ⟨S16x128x300, .f32⟩
  | .hbm, ⟨2, _⟩ => ⟨S16x128x300, .f32⟩
  | .hbm, ⟨3, _⟩ => ⟨S25x50, .f32⟩
  | .hbm, ⟨4, _⟩ => ⟨S650x300, .f32⟩
  | .hbm, ⟨5, _⟩ => ⟨S300, .f32⟩
  | .hbm, ⟨6, _⟩ => ⟨S300, .f32⟩
  | .hbm, ⟨7, _⟩ => ⟨S300, .f32⟩
  | .hbm, ⟨8, _⟩ => ⟨S300x1, .f32⟩
  | .hbm, ⟨9, _⟩ => ⟨S1, .f32⟩
  | .hbm, ⟨10, _⟩ => ⟨S25, .f32⟩
  | .hbm, ⟨11, _⟩ => ⟨S1x25, .f32⟩
  | .hbm, ⟨12, _⟩ => ⟨S49152, .i32⟩
  | .hbm, ⟨13, _⟩ => ⟨S3044x2, .i32⟩
  | .hbm, ⟨14, _⟩ => ⟨S25, .f32⟩
  | .hbm, ⟨15, _⟩ => ⟨S25x1, .f32⟩
  | .hbm, ⟨16, _⟩ => ⟨S1x25, .f32⟩
  | .hbm, ⟨17, _⟩ => ⟨S25x25, .f32⟩
  | .hbm, ⟨18, _⟩ => ⟨S25x25, .f32⟩
  | .hbm, ⟨19, _⟩ => ⟨S25x25, .f32⟩
  | .hbm, ⟨20, _⟩ => ⟨S25x25, .f32⟩
  | .hbm, ⟨21, _⟩ => ⟨S25x25, .f32⟩
  | .hbm, ⟨22, _⟩ => ⟨S25x25, .f32⟩
  | .hbm, ⟨23, _⟩ => ⟨S25x25, .f32⟩
  | .hbm, ⟨24, _⟩ => ⟨S25x25, .f32⟩
  | .hbm, ⟨25, _⟩ => ⟨S16x128x300, .f32⟩
  | .hbm, ⟨26, _⟩ => ⟨S16x128x300, .f32⟩
  | .hbm, ⟨27, _⟩ => ⟨S1x300, .f32⟩
  | .hbm, ⟨28, _⟩ => ⟨S1x300, .f32⟩
  | .hbm, ⟨29, _⟩ => ⟨S1x300, .f32⟩
  | .hbm, ⟨30, _⟩ => ⟨S1x1, .f32⟩
  | .hbm, ⟨31, _⟩ => ⟨S16x32x128, .f32⟩
  | .hbm, ⟨32, _⟩ => ⟨S65536, .f32⟩
  | .hbm, ⟨33, _⟩ => ⟨S49152, .f32⟩
  | .hbm, ⟨34, _⟩ => ⟨S16x3072, .f32⟩
  | .hbm, ⟨35, _⟩ => ⟨S16x3044, .f32⟩
  | .local .tc .vmem, ⟨0, _⟩ => ⟨S25x25, .f32⟩
  | .local .tc .vmem, ⟨1, _⟩ => ⟨S2x128x300, .f32⟩
  | .local .tc .vmem, ⟨2, _⟩ => ⟨S2x128x300, .f32⟩
  | .local .tc .vmem, ⟨3, _⟩ => ⟨S2x128x300, .f32⟩
  | .local .tc .vmem, ⟨4, _⟩ => ⟨S2x128x300, .f32⟩
  | .local .tc .vmem, ⟨5, _⟩ => ⟨S25x50, .f32⟩
  | .local .tc .vmem, ⟨6, _⟩ => ⟨S650x300, .f32⟩
  | .local .tc .vmem, ⟨7, _⟩ => ⟨S1x300, .f32⟩
  | .local .tc .vmem, ⟨8, _⟩ => ⟨S1x300, .f32⟩
  | .local .tc .vmem, ⟨9, _⟩ => ⟨S1x300, .f32⟩
  | .local .tc .vmem, ⟨10, _⟩ => ⟨S300x1, .f32⟩
  | .local .tc .vmem, ⟨11, _⟩ => ⟨S1x1, .f32⟩
  | .local .tc .vmem, ⟨12, _⟩ => ⟨S2x32x128, .f32⟩
  | .local .tc .vmem, ⟨13, _⟩ => ⟨S2x32x128, .f32⟩
  | .local .scVector .vmem, ⟨0, _⟩ => ⟨S1536, .i32⟩
  | .local .scVector .vmem, ⟨1, _⟩ => ⟨S1536, .f32⟩
  | _, _ => ⟨S16x128x300, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v19_scv : Ref sig .scVector := ⟨.hbm, 32, rfl⟩
abbrev main_c_scv : Ref sig .scVector := ⟨.hbm, 12, rfl⟩
abbrev main_v20_scv : Ref sig .scVector := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S25x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S650x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S300x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_h" => some ((1 / 300 : ℝ) : EReal)
  | _ => none
-- ==== ReferenceIdeal.lean ====
abbrev S16x128x300 : Shape := ⟨3, ![16, 128, 300]⟩
abbrev S25x50 : Shape := ⟨2, ![25, 50]⟩
abbrev S650x300 : Shape := ⟨2, ![650, 300]⟩
abbrev S300 : Shape := ⟨1, ![300]⟩
abbrev S300x1 : Shape := ⟨2, ![300, 1]⟩
abbrev S1 : Shape := ⟨1, ![1]⟩
abbrev S3044 : Shape := ⟨1, ![3044]⟩
abbrev S_ : Shape := ⟨0, ![]⟩
abbrev S3044x1 : Shape := ⟨2, ![3044, 1]⟩
abbrev S16x3044x300 : Shape := ⟨3, ![16, 3044, 300]⟩
abbrev S16x3044x600 : Shape := ⟨3, ![16, 3044, 600]⟩
abbrev S1x1 : Shape := ⟨2, ![1, 1]⟩
abbrev S3044x50 : Shape := ⟨2, ![3044, 50]⟩
abbrev S1x3044 : Shape := ⟨2, ![1, 3044]⟩
abbrev S3044x3044 : Shape := ⟨2, ![3044, 3044]⟩
abbrev S1x3044x50 : Shape := ⟨3, ![1, 3044, 50]⟩
abbrev S16x3044x50 : Shape := ⟨3, ![16, 3044, 50]⟩
abbrev S16x3044x650 : Shape := ⟨3, ![16, 3044, 650]⟩
abbrev S1x1x300 : Shape := ⟨3, ![1, 1, 300]⟩
abbrev S16x3044 : Shape := ⟨2, ![16, 3044]⟩
abbrev S16x3044x1 : Shape := ⟨3, ![16, 3044, 1]⟩
abbrev S1x1x1 : Shape := ⟨3, ![1, 1, 1]⟩
abbrev S3044x2 : Shape := ⟨2, ![3044, 2]⟩

abbrev nBuf : Space → Nat
  | .hbm => 124
  | .vmem => 0
  | .smem => 0
  | _ => 0

abbrev bufTy : (tb : Table) → Fin (tcTables nBuf tb) → BufTy
  | .hbm, ⟨0, _⟩ => ⟨S16x128x300, .f32⟩
  | .hbm, ⟨1, _⟩ => ⟨S16x128x300, .f32⟩
  | .hbm, ⟨2, _⟩ => ⟨S16x128x300, .f32⟩
  | .hbm, ⟨3, _⟩ => ⟨S25x50, .f32⟩
  | .hbm, ⟨4, _⟩ => ⟨S650x300, .f32⟩
  | .hbm, ⟨5, _⟩ => ⟨S300, .f32⟩
  | .hbm, ⟨6, _⟩ => ⟨S300, .f32⟩
  | .hbm, ⟨7, _⟩ => ⟨S300, .f32⟩
  | .hbm, ⟨8, _⟩ => ⟨S300x1, .f32⟩
  | .hbm, ⟨9, _⟩ => ⟨S1, .f32⟩
  | .hbm, ⟨10, _⟩ => ⟨S3044, .i32⟩
  | .hbm, ⟨11, _⟩ => ⟨S3044, .i1⟩
  | .hbm, ⟨12, _⟩ => ⟨S3044, .i32⟩
  | .hbm, ⟨13, _⟩ => ⟨S3044, .i1⟩
  | .hbm, ⟨14, _⟩ => ⟨S3044, .i32⟩
  | .hbm, ⟨15, _⟩ => ⟨S3044, .f32⟩
  | .hbm, ⟨16, _⟩ => ⟨S3044, .i32⟩
  | .hbm, ⟨17, _⟩ => ⟨S3044, .i32⟩
  | .hbm, ⟨18, _⟩ => ⟨S16x128x300, .f32⟩
  | .hbm, ⟨19, _⟩ => ⟨S16x128x300, .f32⟩
  | .hbm, ⟨20, _⟩ => ⟨S_, .i32⟩
  | .hbm, ⟨21, _⟩ => ⟨S3044, .i32⟩
  | .hbm, ⟨22, _⟩ => ⟨S3044, .i32⟩
  | .hbm, ⟨23, _⟩ => ⟨S3044, .i32⟩
  | .hbm, ⟨24, _⟩ => ⟨S3044x1, .i32⟩
  | .hbm, ⟨25, _⟩ => ⟨S16x3044x300, .f32⟩
  | .hbm, ⟨26, _⟩ => ⟨S_, .i32⟩
  | .hbm, ⟨27, _⟩ => ⟨S3044, .i32⟩
  | .hbm, ⟨28, _⟩ => ⟨S3044, .i32⟩
  | .hbm, ⟨29, _⟩ => ⟨S3044, .i32⟩
  | .hbm, ⟨30, _⟩ => ⟨S3044x1, .i32⟩
  | .hbm, ⟨31, _⟩ => ⟨S16x3044x300, .f32⟩
  | .hbm, ⟨32, _⟩ => ⟨S16x3044x600, .f32⟩
  | .hbm, ⟨33, _⟩ => ⟨S_, .i32⟩
  | .hbm, ⟨34, _⟩ => ⟨S3044, .i32⟩
  | .hbm, ⟨35, _⟩ => ⟨S3044, .i1⟩
  | .hbm, ⟨36, _⟩ => ⟨S_, .i32⟩
  | .hbm, ⟨37, _⟩ => ⟨S3044, .i32⟩
  | .hbm, ⟨38, _⟩ => ⟨S3044, .i32⟩
  | .hbm, ⟨39, _⟩ => ⟨S3044, .i32⟩
  | .hbm, ⟨40, _⟩ => ⟨S3044x1, .i32⟩
  | .hbm, ⟨41, _⟩ => ⟨S1, .i32⟩
  | .hbm, ⟨42, _⟩ => ⟨S_, .i32⟩
  | .hbm, ⟨43, _⟩ => ⟨S3044x1, .i32⟩
  | .hbm, ⟨44, _⟩ => ⟨S3044x1, .i1⟩
  | .hbm, ⟨45, _⟩ => ⟨S1x1, .i32⟩
  | .hbm, ⟨46, _⟩ => ⟨S3044x1, .i32⟩
  | .hbm, ⟨47, _⟩ => ⟨S3044x1, .i1⟩
  | .hbm, ⟨48, _⟩ => ⟨S3044x1, .i1⟩
  | .hbm, ⟨49, _⟩ => ⟨S_, .i1⟩
  | .hbm, ⟨50, _⟩ => ⟨S3044, .i1⟩
  | .hbm, ⟨51, _⟩ => ⟨S3044x50, .f32⟩
  | .hbm, ⟨52, _⟩ => ⟨S3044x50, .i1⟩
  | .hbm, ⟨53, _⟩ => ⟨S_, .f32⟩
  | .hbm, ⟨54, _⟩ => ⟨S3044x50, .f32⟩
  | .hbm, ⟨55, _⟩ => ⟨S3044x50, .f32⟩
  | .hbm, ⟨56, _⟩ => ⟨S3044x1, .f32⟩
  | .hbm, ⟨57, _⟩ => ⟨S1x3044, .f32⟩
  | .hbm, ⟨58, _⟩ => ⟨S3044x3044, .f32⟩
  | .hbm, ⟨59, _⟩ => ⟨S3044x3044, .f32⟩
  | .hbm, ⟨60, _⟩ => ⟨S3044x3044, .f32⟩
  | .hbm, ⟨61, _⟩ => ⟨S3044x3044, .f32⟩
  | .hbm, ⟨62, _⟩ => ⟨S3044x3044, .f32⟩
  | .hbm, ⟨63, _⟩ => ⟨S3044x3044, .f32⟩
  | .hbm, ⟨64, _⟩ => ⟨S3044x50, .f32⟩
  | .hbm, ⟨65, _⟩ => ⟨S1x3044x50, .f32⟩
  | .hbm, ⟨66, _⟩ => ⟨S16x3044x50, .f32⟩
  | .hbm, ⟨67, _⟩ => ⟨S16x3044x650, .f32⟩
  | .hbm, ⟨68, _⟩ => ⟨S16x3044x300, .f32⟩
  | .hbm, ⟨69, _⟩ => ⟨S1x1x300, .f32⟩
  | .hbm, ⟨70, _⟩ => ⟨S16x3044x300, .f32⟩
  | .hbm, ⟨71, _⟩ => ⟨S16x3044x300, .f32⟩
  | .hbm, ⟨72, _⟩ => ⟨S_, .f32⟩
  | .hbm, ⟨73, _⟩ => ⟨S16x3044, .f32⟩
  | .hbm, ⟨74, _⟩ => ⟨S16x3044x1, .f32⟩
  | .hbm, ⟨75, _⟩ => ⟨S_, .f32⟩
  | .hbm, ⟨76, _⟩ => ⟨S16x3044x1, .f32⟩
  | .hbm, ⟨77, _⟩ => ⟨S16x3044x1, .f32⟩
  | .hbm, ⟨78, _⟩ => ⟨S16x3044x300, .f32⟩
  | .hbm, ⟨79, _⟩ => ⟨S16x3044x300, .f32⟩
  | .hbm, ⟨80, _⟩ => ⟨S16x3044x300, .f32⟩
  | .hbm, ⟨81, _⟩ => ⟨S_, .f32⟩
  | .hbm, ⟨82, _⟩ => ⟨S16x3044, .f32⟩
  | .hbm, ⟨83, _⟩ => ⟨S16x3044x1, .f32⟩
  | .hbm, ⟨84, _⟩ => ⟨S_, .f32⟩
  | .hbm, ⟨85, _⟩ => ⟨S16x3044x1, .f32⟩
  | .hbm, ⟨86, _⟩ => ⟨S16x3044x1, .f32⟩
  | .hbm, ⟨87, _⟩ => ⟨S16x3044x300, .f32⟩
  | .hbm, ⟨88, _⟩ => ⟨S16x3044x300, .f32⟩
  | .hbm, ⟨89, _⟩ => ⟨S_, .f32⟩
  | .hbm, ⟨90, _⟩ => ⟨S16x3044x1, .f32⟩
  | .hbm, ⟨91, _⟩ => ⟨S16x3044x1, .f32⟩
  | .hbm, ⟨92, _⟩ => ⟨S16x3044x1, .f32⟩
  | .hbm, ⟨93, _⟩ => ⟨S16x3044x300, .f32⟩
  | .hbm, ⟨94, _⟩ => ⟨S16x3044x300, .f32⟩
  | .hbm, ⟨95, _⟩ => ⟨S1x1x300, .f32⟩
  | .hbm, ⟨96, _⟩ => ⟨S16x3044x300, .f32⟩
  | .hbm, ⟨97, _⟩ => ⟨S16x3044x300, .f32⟩
  | .hbm, ⟨98, _⟩ => ⟨S1x1x300, .f32⟩
  | .hbm, ⟨99, _⟩ => ⟨S16x3044x300, .f32⟩
  | .hbm, ⟨100, _⟩ => ⟨S16x3044x300, .f32⟩
  | .hbm, ⟨101, _⟩ => ⟨S_, .f32⟩
  | .hbm, ⟨102, _⟩ => ⟨S16x3044x300, .f32⟩
  | .hbm, ⟨103, _⟩ => ⟨S16x3044x300, .i1⟩
  | .hbm, ⟨104, _⟩ => ⟨S_, .f32⟩
  | .hbm, ⟨105, _⟩ => ⟨S16x3044x300, .f32⟩
  | .hbm, ⟨106, _⟩ => ⟨S16x3044x300, .i1⟩
  | .hbm, ⟨107, _⟩ => ⟨S_, .f32⟩
  | .hbm, ⟨108, _⟩ => ⟨S_, .f32⟩
  | .hbm, ⟨109, _⟩ => ⟨S16x3044x300, .f32⟩
  | .hbm, ⟨110, _⟩ => ⟨S16x3044x300, .f32⟩
  | .hbm, ⟨111, _⟩ => ⟨S16x3044x300, .f32⟩
  | .hbm, ⟨112, _⟩ => ⟨S_, .f32⟩
  | .hbm, ⟨113, _⟩ => ⟨S16x3044x300, .f32⟩
  | .hbm, ⟨114, _⟩ => ⟨S16x3044x300, .f32⟩
  | .hbm, ⟨115, _⟩ => ⟨S16x3044x300, .f32⟩
  | .hbm, ⟨116, _⟩ => ⟨S16x3044x1, .f32⟩
  | .hbm, ⟨117, _⟩ => ⟨S1x1x1, .f32⟩
  | .hbm, ⟨118, _⟩ => ⟨S16x3044x1, .f32⟩
  | .hbm, ⟨119, _⟩ => ⟨S16x3044x1, .f32⟩
  | .hbm, ⟨120, _⟩ => ⟨S16x3044, .f32⟩
  | .hbm, ⟨121, _⟩ => ⟨S3044x1, .i32⟩
  | .hbm, ⟨122, _⟩ => ⟨S3044x1, .i32⟩
  | .hbm, ⟨123, _⟩ => ⟨S3044x2, .i32⟩
  | _, _ => ⟨S16x128x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_cst : Ref sig .tc := ⟨.hbm, 15, rfl⟩
abbrev main_c_4 : Ref sig .tc := ⟨.hbm, 16, rfl⟩
abbrev main_c_5 : Ref sig .tc := ⟨.hbm, 17, rfl⟩
abbrev main_v0 : Ref sig .tc := ⟨.hbm, 18, rfl⟩
abbrev main_v1 : Ref sig .tc := ⟨.hbm, 19, rfl⟩
abbrev main_c_6 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_7 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_8 : Ref sig .tc := ⟨.hbm, 72, rfl⟩
abbrev main_v30 : Ref sig .tc := ⟨.hbm, 73, rfl⟩
abbrev main_v31 : Ref sig .tc := ⟨.hbm, 74, rfl⟩
abbrev main_cst_9 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_10 : Ref sig .tc := ⟨.hbm, 81, rfl⟩
abbrev main_v37 : Ref sig .tc := ⟨.hbm, 82, rfl⟩
abbrev main_v38 : Ref sig .tc := ⟨.hbm, 83, rfl⟩
abbrev main_cst_11 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_12 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_cst_1 : Ref sig .tc := ⟨.hbm, 107, rfl⟩
abbrev main_call1_call0_v0 : Ref sig .tc := ⟨.hbm, 108, rfl⟩
abbrev main_call1_call0_v1 : Ref sig .tc := ⟨.hbm, 109, rfl⟩
abbrev main_call1_v4 : Ref sig .tc := ⟨.hbm, 110, rfl⟩
abbrev main_call1_v5 : Ref sig .tc := ⟨.hbm, 111, rfl⟩
abbrev main_call1_cst_2 : Ref sig .tc := ⟨.hbm, 112, rfl⟩
abbrev main_call1_v6 : Ref sig .tc := ⟨.hbm, 113, rfl⟩
abbrev main_call1_v7 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩

abbrev nD : Nat := 1
abbrev τ : Topo := Topo.v7x

variable {F : FTy → Type} [FloatOps F]
-- ==== Proof.Setup.lean ====
/-
  What the proof modules share: the program as the SparseCore launch theorem sees it, the ghost algebra (the call's
  handshakes, the staging pipeline's rounds and the transfers' counters side by side), and where the arrays are.
-/
module

public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.DatRel
public import Idealize.ShloMosaic.Lib.Pipeline.FrameBody
public import Idealize.ShloMosaic.Lib.Pipeline.Frame
public import Idealize.ShloMosaic.Lib.Transfers
public import Idealize.ShloMosaic.Lib.Tactic

@[expose] public section

noncomputable section

namespace Cert.Proof.Band

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the printed program's calls. -/
abbrev ΛP : Labels := Pipeline.Sig Λ₀ (Fin 1) fun p => (pcfgs (F := F) p).Adm
/-- The program's one SparseCore call. -/
abbrev K : SparseCore.Cfg τ sig (ΛP (F := F)) 1 := sc (F := F)
/-- The program's functions, the SparseCore call's dispatch apart. -/
abbrev D [FloatOps F] [Named F] : Defs nD τ sig (Elt F) (ΛP (F := F)) := Pipeline.defs pcfgs defs₀
/-- No loop of the program takes a variant of its own. -/
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds, the pipeline's rounds, the transfers' counters. -/
abbrev UU : Type := UH × (UR sig nD τ × Counters)

local notation "𝕄" => MT nD τ sig (HIx 1) (Elt F) ℕ UU ℕ

/-- Where the handshakes' rounds lie, -/
abbrev EH : Emb UH (MT nD τ sig (HIx 1) (Elt F) ℕ UU ℕ) := embL
/-- and the pipeline's. -/
def EP : Emb (UR sig nD τ) (MT nD τ sig (HIx 1) (Elt F) ℕ UU ℕ) := (Emb.inl : Emb (UR sig nD τ) (UR sig nD τ × Counters)).trans embR

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

end Cert.Proof.Band

end
-- ==== Proof.BandVal.lean ====
/-
  What the band kernel stores, written once for every row `d` and both batches of a grid point: a table row is a common
  function (`rowOf`) of the sum of one operand's product, the other's turned by `d - 12` and row `d` of the
  position table. The printed body spells each of the fifty rows out; each is this one by unfolding.
-/
module

public import proofs.«01_k».proof.Proof.Setup
public import proofs.«01_k».proof.Proof.Gen.KernelIdeal.Skeleton
public import Idealize.ShloMosaic.Lib.Pipeline.Value
public import Idealize.ShloMosaic.Lib.Pointwise
public import Idealize.ShloMosaic.Lib.ValueIdxCore

@[expose] public section

noncomputable section

namespace Cert.Proof.Band

open Cert.KernelIdeal Cert.KernelIdeal.Gen
open Idealize.ShloMosaic

variable {F : FTy → Type} [FloatOps F] [Named F]

/-- The normalised, scaled and clipped row, contracted with the last weights: one stored row. -/
def rowOf (br : F .f32) (g b w : FVec F S1x300 .bf16) (v : FVec F S128x300 .f32) : FVec F S1x1x128 .f32 :=
  let m1 : FVec F S128x1 .f32 := shapeCast S128x1 (multiReduction .add [1] S128 v 0x00000000#32 reduces_S128x300_S128 (.inl rfl) rfl) shapeCasts_S128_S128x1
  let m2 : FVec F S128x1 .f32 := shapeCast S128x1 (multiReduction .add [1] S128 (mulf v v) 0x00000000#32 reduces_S128x300_S128 (.inl rfl) rfl) shapeCasts_S128_S128x1
  let inv : FVec F S128x1 .f32 := broadcast S128x1 (Named.named κ "inv_h" 0x3B5A740E#32 : F .f32)
  let mu : FVec F S128x1 .f32 := mulf m1 inv
  let var : FVec F S128x1 .f32 := subf (mulf m2 inv) (mulf mu mu)
  let r : FVec F S128x1 .f32 := rsqrt (addf var (broadcast S128x1 (Scalar.ofBits .f32 0x3727C5AC#32 : F .f32)))
  let t : FVec F S128x300 .f32 := mulf (subf v (broadcastTo S128x300 mu broadcasts_S128x1_S128x300)) (broadcastTo S128x300 r broadcasts_S128x1_S128x300)
  let y : FVec F S128x300 .bf16 := addf (mulf (truncf .bf16 t bitsLt_bf16_f32) (broadcastTo S128x300 g broadcasts_S1x300_S128x300)) (broadcastTo S128x300 b broadcasts_S1x300_S128x300)
  let z : FVec F S128x300 .bf16 := select (cmpf .ogt y (broadcast S128x300 (Scalar.ofBits .bf16 0x0000#16 : F .bf16))) y (subf (exp y) (broadcast S128x300 (Scalar.ofBits .bf16 0x3F80#16 : F .bf16)))
  let o : FVec F S1x128 .f32 := matmul dot_S1x300_S128x300_S1x128_1_1_0_0_n_n none w z (constant S1x128 .f32 0x00000000#32)
  shapeCast S1x1x128 (addf (shapeCast S128 o shapeCasts_S1x128_S128) (broadcast S128 br)) shapeCasts_S128_S1x1x128

/-- The rows turned by `o`: row `r` of the result is row `r + o` of the operand. -/
def turn (c : FVec F S128x300 .f32) (o : ℕ) : FVec F S128x300 .f32 :=
  fun j => c (ix2 (⟨((j 0).val + o) % 128, Nat.mod_lt _ (by omega)⟩ : Fin 128) (⟨(j 1).val, (j 1).isLt⟩ : Fin 300))

/-- Row `d` of the position table, on every row. -/
def posRow (e : FVec F S25x300 .f32) (d : Fin 25) : FVec F S128x300 .f32 :=
  fun j => e (ix2 d (⟨(j 1).val, (j 1).isLt⟩ : Fin 300))

/-- What row `d` is computed from. -/
def bandIn (a c : FVec F S128x300 .f32) (e : FVec F S25x300 .f32) (d : Fin 25) : FVec F S128x300 .f32 :=
  addf (addf a (turn c (d.val + 116))) (posRow e d)

/-- The two slices of a turned operand, put together. -/
theorem turn_eq (c : FVec F S128x300 .f32) (n1 n2 o k : ℕ)
    (h1 : S128x300.Slices ![o, 0] ⟨2, ![n1, 300]⟩) (h2 : S128x300.Slices ![0, 0] ⟨2, ![n2, 300]⟩)
    (hc : Shape.Concatenates [⟨2, ![n1, 300]⟩, ⟨2, ![n2, 300]⟩] S128x300 0) (ho : o + n1 = 128) (hn : n1 + n2 = 128) (hk : k % 128 = o % 128) :
    concatenate S128x300 0 [⟨⟨2, ![n1, 300]⟩, extractStridedSlice ⟨2, ![n1, 300]⟩ ![o, 0] c h1⟩, ⟨⟨2, ![n2, 300]⟩, extractStridedSlice ⟨2, ![n2, 300]⟩ ![0, 0] c h2⟩] hc
      = turn c k := by
  funext j
  have h0 : (j 0).val < 128 := (j 0).isLt
  by_cases hlt : (j 0).val < n1
  · rw [concatenate_pair_apply_left (t := S128x300) (s₁ := ⟨2, ![n1, 300]⟩) 0 _ _ hc j rfl (ix2 (⟨(j 0).val, hlt⟩ : Fin n1) (⟨(j 1).val, (j 1).isLt⟩ : Fin 300)) (fun b => by fin_cases b <;> rfl)]
    unfold turn extractStridedSlice
    refine congrArg c (funext fun a => Fin.ext ?_)
    fin_cases a
    · show o + (j 0).val = ((j 0).val + k) % 128
      omega
    · show 0 + (j 1).val = (j 1).val
      omega
  · rw [concatenate_pair_apply_right (t := S128x300) (s₁ := ⟨2, ![n1, 300]⟩) (s₂ := ⟨2, ![n2, 300]⟩) 0 _ _ hc j rfl rfl
      (ix2 (⟨(j 0).val - n1, by omega⟩ : Fin n2) (⟨(j 1).val, (j 1).isLt⟩ : Fin 300))
      (fun b hb => by fin_cases b; exact absurd rfl hb; rfl) (show (j 0).val - n1 + n1 = (j 0).val by omega)]
    unfold turn extractStridedSlice
    refine congrArg c (funext fun a => Fin.ext ?_)
    fin_cases a
    · show 0 + ((j 0).val - n1) = ((j 0).val + k) % 128
      omega
    · show 0 + (j 1).val = (j 1).val
      omega

/-- No turn at all. -/
theorem turn_self (c : FVec F S128x300 .f32) : c = turn c 128 := by
  funext j
  unfold turn
  refine congrArg c (funext fun a => Fin.ext ?_)
  have h0 : (j 0).val < 128 := (j 0).isLt
  fin_cases a
  · show (j 0).val = ((j 0).val + 128) % 128
    omega
  · rfl

/-- The position table's row as the body reaches it. -/
theorem posRow_eq (e : FVec F S25x300 .f32) (d : Fin 25) (h : S25x300.Slices ![d.val, 0] S1x300) :
    broadcastTo S128x300 (shapeCast S1x300 (shapeCast S300 (extractStridedSlice S1x300 ![d.val, 0] e h) shapeCasts_S1x300_S300) shapeCasts_S300_S1x300) broadcasts_S1x300_S128x300
      = posRow e d := by
  rw [shapeCast_shapeCast]
  funext j
  unfold posRow broadcastTo extractStridedSlice
  refine congrArg e (funext fun a => Fin.ext ?_)
  fin_cases a
  · rfl
  · show 0 + (j 1).val = (j 1).val
    omega

/-- A row computed from the turned slices: `bandIn`. -/
theorem bandIn_eq (a c : FVec F S128x300 .f32) (e : FVec F S25x300 .f32) (d : ℕ) (hd : d < 25) (n1 n2 o : ℕ)
    (h1 : S128x300.Slices ![o, 0] ⟨2, ![n1, 300]⟩) (h2 : S128x300.Slices ![0, 0] ⟨2, ![n2, 300]⟩)
    (hc : Shape.Concatenates [⟨2, ![n1, 300]⟩, ⟨2, ![n2, 300]⟩] S128x300 0) (h : S25x300.Slices ![d, 0] S1x300)
    (ho : o + n1 = 128) (hn : n1 + n2 = 128) (hk : (d + 116) % 128 = o % 128) :
    addf (addf a (concatenate S128x300 0 [⟨⟨2, ![n1, 300]⟩, extractStridedSlice ⟨2, ![n1, 300]⟩ ![o, 0] c h1⟩, ⟨⟨2, ![n2, 300]⟩, extractStridedSlice ⟨2, ![n2, 300]⟩ ![0, 0] c h2⟩] hc))
        (broadcastTo S128x300 (shapeCast S1x300 (shapeCast S300 (extractStridedSlice S1x300 ![d, 0] e h) shapeCasts_S1x300_S300) shapeCasts_S300_S1x300) broadcasts_S1x300_S128x300)
      = bandIn a c e ⟨d, hd⟩ := by
  rw [turn_eq c n1 n2 o (d + 116) h1 h2 hc ho hn hk, posRow_eq e ⟨d, hd⟩ h]; rfl

/-- The same for a row named by its number alone. -/
theorem bandIn_of (a c : FVec F S128x300 .f32) (e : FVec F S25x300 .f32) (d : ℕ) (hd : d < 25) (v : FVec F S128x300 .f32)
    (h1 : S128x300.Slices ![(d + 116) % 128, 0] ⟨2, ![128 - (d + 116) % 128, 300]⟩) (h2 : S128x300.Slices ![0, 0] ⟨2, ![(d + 116) % 128, 300]⟩)
    (hc : Shape.Concatenates [⟨2, ![128 - (d + 116) % 128, 300]⟩, ⟨2, ![(d + 116) % 128, 300]⟩] S128x300 0) (h : S25x300.Slices ![d, 0] S1x300)
    (hv : v = addf (addf a (concatenate S128x300 0 [⟨⟨2, ![128 - (d + 116) % 128, 300]⟩, extractStridedSlice ⟨2, ![128 - (d + 116) % 128, 300]⟩ ![(d + 116) % 128, 0] c h1⟩,
          ⟨⟨2, ![(d + 116) % 128, 300]⟩, extractStridedSlice ⟨2, ![(d + 116) % 128, 300]⟩ ![0, 0] c h2⟩] hc))
        (broadcastTo S128x300 (shapeCast S1x300 (shapeCast S300 (extractStridedSlice S1x300 ![d, 0] e h) shapeCasts_S1x300_S300) shapeCasts_S300_S1x300) broadcasts_S1x300_S128x300)) :
    v = bandIn a c e ⟨d, hd⟩ :=
  hv.trans (bandIn_eq a c e d hd _ _ _ h1 h2 hc h (by omega) (by omega) (by omega))

/-- The row in the middle, not turned. -/
theorem bandIn_mid (a c : FVec F S128x300 .f32) (e : FVec F S25x300 .f32) (h : S25x300.Slices ![12, 0] S1x300) :
    addf (addf a c)
        (broadcastTo S128x300 (shapeCast S1x300 (shapeCast S300 (extractStridedSlice S1x300 ![12, 0] e h) shapeCasts_S1x300_S300) shapeCasts_S300_S1x300) broadcasts_S1x300_S128x300)
      = bandIn a c e ⟨12, by omega⟩ := by
  have := posRow_eq e ⟨12, by omega⟩ h
  unfold bandIn
  rw [← this]
  exact congrArg (fun z => addf (addf a z) _) (turn_self c)

/-- One stored row of a block, from what the body loads: the table, the weights and the two batches' slabs. -/
def storedRow (l0 : Vec F S25x25 .f32) (l3 : Vec F S25x50 .f32) (l4 : Vec F S650x300 .f32) (l5 l6 l7 : Vec F S1x300 .f32) (l8 : Vec F S300x1 .f32) (l9 : Vec F S1x1 .f32)
    (he hc : Fin 2 → Vec F S1x128x300 .f32) (bb : Fin 2) (d : Fin 25) : FVec F S1x1x128 .f32 :=
  rowOf (k0_pay3 l9) (k0_pay4 l6) (k0_pay5 l7) (k0_pay6 l8) (bandIn (k0_pay7 l4 (he bb)) (k0_pay8 l4 (hc bb)) (k0_pay2 l4 l0 l3 l5) d)

/-- The stored rows as one function of the block's index (below row 25: the rest is not stored). -/
def stored (l0 : Vec F S25x25 .f32) (l3 : Vec F S25x50 .f32) (l4 : Vec F S650x300 .f32) (l5 l6 l7 : Vec F S1x300 .f32) (l8 : Vec F S300x1 .f32) (l9 : Vec F S1x1 .f32)
    (he hc : Fin 2 → Vec F S1x128x300 .f32) : S2x32x128.Idx → F .f32 :=
  fun j => storedRow l0 l3 l4 l5 l6 l7 l8 l9 he hc (⟨(j 0).val, (j 0).isLt⟩ : Fin 2) ⟨(j 1).val % 25, Nat.mod_lt _ (by omega)⟩ (ix3 0 0 (⟨(j 2).val, (j 2).isLt⟩ : Fin 128))

/-- A piece the body stores holds what `stored` says at its place. -/
theorem stored_piece (l0 : Vec F S25x25 .f32) (l3 : Vec F S25x50 .f32) (l4 : Vec F S650x300 .f32) (l5 l6 l7 : Vec F S1x300 .f32) (l8 : Vec F S300x1 .f32) (l9 : Vec F S1x1 .f32)
    (he hc : Fin 2 → Vec F S1x128x300 .f32) (bb d : ℕ) (hbb : bb < 2) (hd : d < 25) (inb : ∀ a, (![bb, d, 0] : Fin 3 → ℕ) a + S1x1x128.size a ≤ S2x32x128.size a)
    (v : FVec F S128x300 .f32) (hv : v = bandIn (k0_pay7 l4 (he ⟨bb, hbb⟩)) (k0_pay8 l4 (hc ⟨bb, hbb⟩)) (k0_pay2 l4 l0 l3 l5) ⟨d, hd⟩) (x : S1x1x128.Idx) :
    rowOf (k0_pay3 l9) (k0_pay4 l6) (k0_pay5 l7) (k0_pay6 l8) v x
      = stored l0 l3 l4 l5 l6 l7 l8 l9 he hc ((Rect.unit (s := S2x32x128) ![bb, d, 0] S1x1x128.size inb).emb x) := by
  subst hv
  unfold stored
  have h0 : (x 0).val < 1 := (x 0).isLt
  have h1 : (x 1).val < 1 := (x 1).isLt
  have e0 : (((Rect.unit (s := S2x32x128) ![bb, d, 0] S1x1x128.size inb).emb x) 0).val = bb := by
    show bb + 1 * (x 0).val = bb
    omega
  have e1 : (((Rect.unit (s := S2x32x128) ![bb, d, 0] S1x1x128.size inb).emb x) 1).val % 25 = d := by
    show (d + 1 * (x 1).val) % 25 = d
    omega
  have e2 : (((Rect.unit (s := S2x32x128) ![bb, d, 0] S1x1x128.size inb).emb x) 2).val = (x 2).val := by
    show 0 + 1 * (x 2).val = (x 2).val
    omega
  simp only [e0, e1, e2]
  unfold storedRow
  refine congrArg _ (funext fun a => Fin.ext ?_)
  fin_cases a
  · show (x 0).val = 0
    omega
  · show (x 1).val = 0
    omega
  · rfl

/-- Batch `bb` of a block of two. -/
def slab (x : Vec F S2x128x300 .f32) (bb : Fin 2) : Vec F S1x128x300 .f32 :=
  fun j => x (ix3 bb (⟨(j 1).val, (j 1).isLt⟩ : Fin 128) (⟨(j 2).val, (j 2).isLt⟩ : Fin 300))

/-- A load of the whole buffer reads what it holds. -/
theorem load_whole {s : Shape} {e : EltTy} (mr : Memref sig .tc .vmem s e) (h : mr.IsWhole) (x : Vec F s e) (off : Fin s.rank → ℕ) (hoff : ∀ a, off a = 0)
    (inb : ∀ a, off a + s.size a ≤ s.size a) :
    View.readAt (Elt F) mr.view (Rect.unit off s.size inb).toLoadRect (h.unread x) = x := by
  show (fun j => mr.view.read (Elt F) (h.unread x) ((Rect.unit off s.size inb).emb j)) = x
  rw [h.read_unread]
  funext j
  refine congrArg x (funext fun a => Fin.ext ?_)
  show off a + 1 * (j a).val = (j a).val
  rw [hoff a]; omega

/-- A load of one batch reads that batch. -/
theorem load_slab (mr : Memref sig .tc .vmem S2x128x300 .f32) (h : mr.IsWhole) (x : Vec F S2x128x300 .f32) (bb : ℕ) (hbb : bb < 2)
    (inb : ∀ a, (![bb, 0, 0] : Fin 3 → ℕ) a + S1x128x300.size a ≤ S2x128x300.size a) :
    View.readAt (Elt F) mr.view (Rect.unit (s := S2x128x300) ![bb, 0, 0] S1x128x300.size inb).toLoadRect (h.unread x) = slab x ⟨bb, hbb⟩ := by
  show (fun j => mr.view.read (Elt F) (h.unread x) ((Rect.unit (s := S2x128x300) ![bb, 0, 0] S1x128x300.size inb).emb j)) = slab x ⟨bb, hbb⟩
  rw [h.read_unread]
  funext j
  have h0 : (j 0).val < 1 := (j 0).isLt
  refine congrArg x (funext fun a => Fin.ext ?_)
  fin_cases a
  · show bb + 1 * (j 0).val = bb
    omega
  · show 0 + 1 * (j 1).val = (j 1).val
    omega
  · show 0 + 1 * (j 2).val = (j 2).val
    omega

/-- What a grid point leaves in the table's block, on the rows it stores. -/
def BlockIs (x0 : Vec F S25x25 .f32) (x1 x2 : Vec F S2x128x300 .f32) (x3 : Vec F S25x50 .f32) (x4 : Vec F S650x300 .f32) (x5 x6 x7 : Vec F S1x300 .f32) (x8 : Vec F S300x1 .f32) (x9 : Vec F S1x1 .f32)
    (X : Vec F S2x32x128 .f32) : Prop :=
  ∀ y : S2x32x128.Idx, (y 1).val < 25 → X y = stored x0 x3 x4 x5 x6 x7 x8 x9 (slab x1) (slab x2) y

end Cert.Proof.Band

end
-- ==== Proof.BandRun.lean ====
/-
  The band kernel's body, run once: on whole staging buffers it leaves the inputs as they were and the table's block
  holding its rows (`BlockIs`).
-/
module

public import proofs.«01_k».proof.Proof.BandVal
public import Idealize.ShloMosaic.Lib.Writes

@[expose] public section

set_option maxRecDepth 16384

noncomputable section

namespace Cert.Proof.Band

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The places of a stored row. -/
theorem mem_row (bb d : ℕ) (inb : ∀ a, (![bb, d, 0] : Fin 3 → ℕ) a + (![1, 1, 128] : Fin 3 → ℕ) a ≤ S2x32x128.size a) (y : S2x32x128.Idx) :
    y ∈ (Rect.unit (s := S2x32x128) ![bb, d, 0] ![1, 1, 128] inb).set ↔ (y 0).val = bb ∧ (y 1).val = d := by
  rw [Rect.mem_set_unit]
  have h2 : (y 2).val < 128 := (y 2).isLt
  constructor
  · intro h
    have h0 : bb ≤ (y 0).val ∧ (y 0).val < bb + 1 := h 0
    have h1 : d ≤ (y 1).val ∧ (y 1).val < d + 1 := h 1
    omega
  · rintro ⟨rfl, rfl⟩ a
    fin_cases a
    · exact ⟨le_refl _, Nat.lt_succ_self _⟩
    · exact ⟨le_refl _, Nat.lt_succ_self _⟩
    · exact ⟨Nat.zero_le _, by show (y 2).val < 0 + 128; omega⟩

set_option maxHeartbeats 8000000 in
/-- The body's triple. -/
theorem band_run (c : Dev nD) (i : grid0.Coords) (arg1 : Memref sig .tc .vmem S25x25 .f32) (harg1 : arg1.IsWhole) (arg2 : Memref sig .tc .vmem S2x128x300 .f32) (harg2 : arg2.IsWhole) (arg3 : Memref sig .tc .vmem S2x128x300 .f32) (harg3 : arg3.IsWhole) (arg4 : Memref sig .tc .vmem S25x50 .f32) (harg4 : arg4.IsWhole) (arg5 : Memref sig .tc .vmem S650x300 .f32) (harg5 : arg5.IsWhole) (arg6 : Memref sig .tc .vmem S1x300 .f32) (harg6 : arg6.IsWhole) (arg7 : Memref sig .tc .vmem S1x300 .f32) (harg7 : arg7.IsWhole) (arg8 : Memref sig .tc .vmem S1x300 .f32) (harg8 : arg8.IsWhole) (arg9 : Memref sig .tc .vmem S300x1 .f32) (harg9 : arg9.IsWhole) (arg10 : Memref sig .tc .vmem S1x1 .f32) (harg10 : arg10.IsWhole) (arg11 : Memref sig .tc .vmem S2x32x128 .f32) (harg11 : arg11.IsWhole)
    (x0 : Vec F S25x25 .f32) (x1 : Vec F S2x128x300 .f32) (x2 : Vec F S2x128x300 .f32) (x3 : Vec F S25x50 .f32) (x4 : Vec F S650x300 .f32) (x5 : Vec F S1x300 .f32) (x6 : Vec F S1x300 .f32) (x7 : Vec F S1x300 .f32) (x8 : Vec F S300x1 .f32) (x9 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, ⌜BlockIs x0 x1 x2 x3 x4 x5 x6 x7 x8 x9 d⌝ ∗ owns (c : Thread nD τ) arg11 fullShare d)) -∗ K ⟨⟩))
          ⊢ wp frame (wpE (defs₀ (F := F)) Variants.none c none) E (cc0__band_body i arg1 harg1 arg2 harg2 arg3 harg3 arg4 harg4 arg5 harg5 arg6 harg6 arg7 harg7 arg8 harg8 arg9 harg9 arg10 harg10 arg11 harg11) K := by
    intro E K
    simp only [cc0__band_body_eq_skeleton]; unfold cc0__band_body_skel
    simp only [k0_part49_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; isplitr
    swap
    · iexists _; isplitr; swap; · iexact H10
      ipureintro; rfl
    ipureintro
    intro y hy
    have hP := stored_piece (View.readAt (Elt F) arg1.view (Rect.unit ![0, 0] S25x25.size inb_S25x25_S25x25_0_0).toLoadRect (harg1.unread x0))
      (View.readAt (Elt F) arg4.view (Rect.unit ![0, 0] S25x50.size inb_S25x50_S25x50_0_0).toLoadRect (harg4.unread x3))
      (View.readAt (Elt F) arg5.view (Rect.unit ![0, 0] S650x300.size inb_S650x300_S650x300_0_0).toLoadRect (harg5.unread x4))
      (View.readAt (Elt F) arg6.view (Rect.unit ![0, 0] S1x300.size inb_S1x300_S1x300_0_0).toLoadRect (harg6.unread x5))
      (View.readAt (Elt F) arg7.view (Rect.unit ![0, 0] S1x300.size inb_S1x300_S1x300_0_0).toLoadRect (harg7.unread x6))
      (View.readAt (Elt F) arg8.view (Rect.unit ![0, 0] S1x300.size inb_S1x300_S1x300_0_0).toLoadRect (harg8.unread x7))
      (View.readAt (Elt F) arg9.view (Rect.unit ![0, 0] S300x1.size inb_S300x1_S300x1_0_0).toLoadRect (harg9.unread x8))
      (View.readAt (Elt F) arg10.view (Rect.unit ![0, 0] S1x1.size inb_S1x1_S1x1_0_0).toLoadRect (harg10.unread x9))
      ![View.readAt (Elt F) arg2.view (Rect.unit (s := S2x128x300) ![0, 0, 0] S1x128x300.size inb_S2x128x300_S1x128x300_0_0_0).toLoadRect (harg2.unread x1),
        View.readAt (Elt F) arg2.view (Rect.unit (s := S2x128x300) ![1, 0, 0] S1x128x300.size inb_S2x128x300_S1x128x300_1_0_0).toLoadRect (harg2.unread x1)]
      ![View.readAt (Elt F) arg3.view (Rect.unit (s := S2x128x300) ![0, 0, 0] S1x128x300.size inb_S2x128x300_S1x128x300_0_0_0).toLoadRect (harg3.unread x2),
        View.readAt (Elt F) arg3.view (Rect.unit (s := S2x128x300) ![1, 0, 0] S1x128x300.size inb_S2x128x300_S1x128x300_1_0_0).toLoadRect (harg3.unread x2)]
    refine (View.read_writes_apply_of_pieces (Val := Elt F) arg11.view f10 (stored (View.readAt (Elt F) arg1.view (Rect.unit ![0, 0] S25x25.size inb_S25x25_S25x25_0_0).toLoadRect (harg1.unread x0))
      (View.readAt (Elt F) arg4.view (Rect.unit ![0, 0] S25x50.size inb_S25x50_S25x50_0_0).toLoadRect (harg4.unread x3))
      (View.readAt (Elt F) arg5.view (Rect.unit ![0, 0] S650x300.size inb_S650x300_S650x300_0_0).toLoadRect (harg5.unread x4))
      (View.readAt (Elt F) arg6.view (Rect.unit ![0, 0] S1x300.size inb_S1x300_S1x300_0_0).toLoadRect (harg6.unread x5))
      (View.readAt (Elt F) arg7.view (Rect.unit ![0, 0] S1x300.size inb_S1x300_S1x300_0_0).toLoadRect (harg7.unread x6))
      (View.readAt (Elt F) arg8.view (Rect.unit ![0, 0] S1x300.size inb_S1x300_S1x300_0_0).toLoadRect (harg8.unread x7))
      (View.readAt (Elt F) arg9.view (Rect.unit ![0, 0] S300x1.size inb_S300x1_S300x1_0_0).toLoadRect (harg9.unread x8))
      (View.readAt (Elt F) arg10.view (Rect.unit ![0, 0] S1x1.size inb_S1x1_S1x1_0_0).toLoadRect (harg10.unread x9))
      ![View.readAt (Elt F) arg2.view (Rect.unit (s := S2x128x300) ![0, 0, 0] S1x128x300.size inb_S2x128x300_S1x128x300_0_0_0).toLoadRect (harg2.unread x1),
        View.readAt (Elt F) arg2.view (Rect.unit (s := S2x128x300) ![1, 0, 0] S1x128x300.size inb_S2x128x300_S1x128x300_1_0_0).toLoadRect (harg2.unread x1)]
      ![View.readAt (Elt F) arg3.view (Rect.unit (s := S2x128x300) ![0, 0, 0] S1x128x300.size inb_S2x128x300_S1x128x300_0_0_0).toLoadRect (harg3.unread x2),
        View.readAt (Elt F) arg3.view (Rect.unit (s := S2x128x300) ![1, 0, 0] S1x128x300.size inb_S2x128x300_S1x128x300_1_0_0).toLoadRect (harg3.unread x2)]) _ ?_ y ?_).trans ?_
    · repeat' refine List.forall_mem_cons.2 ⟨?_, ?_⟩
      all_goals first
        | (intro p hp; exact absurd hp List.not_mem_nil)
        | (intro x
           refine hP _ _ (by decide) (by decide) (by decide) _ ?_ x
           exact bandIn_mid _ _ _ (by decide))
        | (intro x
           refine hP _ _ (by decide) (by decide) (by decide) _ ?_ x
           exact bandIn_eq _ _ _ _ (by decide) _ _ _ _ _ _ (by decide) rfl rfl rfl)
        | (intro x
           refine hP _ _ (by decide) (by decide) (by decide) _ ?_ x
           exact bandIn_of (F := F) _ _ _ _ _ _ (by decide) (by decide) (by decide) (by decide) rfl)
    · have h0 : (y 0).val = 0 ∨ (y 0).val = 1 := by
        have : (y 0).val < 2 := (y 0).isLt
        omega
      simp only [List.exists_mem_cons_iff, List.not_mem_nil, _root_.false_and, exists_false, _root_.or_false, mem_row]
      generalize (y 1).val = d at hy ⊢
      rcases h0 with h0 | h0 <;> rw [h0] <;> interval_cases d <;>
        (repeat (first | exact Or.inl ⟨rfl, rfl⟩ | exact ⟨rfl, rfl⟩ | refine Or.inr ?_))
    · rw [load_whole arg1 harg1 x0 _ (fun a => by fin_cases a <;> rfl), load_whole arg4 harg4 x3 _ (fun a => by fin_cases a <;> rfl),
        load_whole arg5 harg5 x4 _ (fun a => by fin_cases a <;> rfl), load_whole arg6 harg6 x5 _ (fun a => by fin_cases a <;> rfl),
        load_whole arg7 harg7 x6 _ (fun a => by fin_cases a <;> rfl), load_whole arg8 harg8 x7 _ (fun a => by fin_cases a <;> rfl),
        load_whole arg9 harg9 x8 _ (fun a => by fin_cases a <;> rfl), load_whole arg10 harg10 x9 _ (fun a => by fin_cases a <;> rfl),
        load_slab arg2 harg2 x1 0 (by decide), load_slab arg2 harg2 x1 1 (by decide), load_slab arg3 harg3 x2 0 (by decide), load_slab arg3 harg3 x2 1 (by decide)]
      have e (z : Vec F S2x128x300 .f32) : ![slab z ⟨0, by decide⟩, slab z ⟨1, by decide⟩] = slab z := by
        funext bb; fin_cases bb <;> rfl
      rw [e, e]

end Cert.Proof.Band

end
-- ==== Proof.Region.lean ====
/-
  The band kernel's region: the pipeline's proof data over any contents of the TensorCore's buffers, the body obligation
  from the body's run, and the region as a segment of the program.
-/
module

public import proofs.«01_k».proof.Proof.BandRun
public import Idealize.ShloMosaic.Lib.Pipeline.Regions
public import Idealize.ShloMosaic.Lib.Pipeline.RegionArrays
public import Idealize.ShloMosaic.Lib.Pipeline.ArrRel

@[expose] public section

set_option maxRecDepth 16384

noncomputable section

namespace Cert.Proof.Band

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F] [Named F]

local notation "𝕄" => MT nD τ sig (HIx 1) (Elt F) ℕ UU ℕ

/-- The one pipeline prefetches no table. -/
abbrev adm : (p : Fin 1) → (pcfgs (F := F) p).Adm := fun p => (cfgs p).toPCfg_adm

variable (V : (c : Dev nD) → (b : Ref sig .tc) → Buf (Elt F) ((c : Thread nD τ).loc b))

/-- The block of window `w`'s array that grid point `t` stages. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: the arrays as the region finds them, every input's buffer left at its block; the core
    owes the SparseCores their starts throughout. -/
def dat (c : Dev nD) : Dat τ (Elt F) (HIx 1) ℕ UU ℕ cfg0 c where
  A w := V c (Pipeline.arrRef spec0 w)
  after w t := (cfg0.win w).fill (cfg0.grid.coords t) (Pipeline.Dat.unnamed (cfg := cfg0) w t) (iblk V c w t)
  Φ _ := Pipeline.scopedRest spec0 c
  q _ := fullShare
  owed _ := (K (F := F)).Otc c 0
  recorded _ := {p | (K (F := F)).lev (SparseCore.T c, p.1) p.2 ≤ 0}

/-- The windows whose contents are known by a property alone: the output. -/
def fgt (w : Fin cfg0.W) : Bool := w.val == 10

/-- What the body leaves in the output's buffer: the table's rows of the point's blocks. -/
def Rl (c : Dev nD) : (w : Fin cfg0.W) → Fin cfg0.N → ((cfg0.win w).block.Idx → Elt F (cfg0.win w).elt) → Prop
  | ⟨10, _⟩ => fun t X => BlockIs (F := F) (iblk V c 0 t) (iblk V c 1 t) (iblk V c 2 t) (iblk V c 3 t) (iblk V c 4 t) (iblk V c 5 t) (iblk V c 6 t) (iblk V c 7 t) (iblk V c 8 t) (iblk V c 9 t) X
  | _ => fun _ _ => True

/-! An input's buffer holds its block when the body runs. -/

theorem before_0 (c : Dev nD) (t : Fin cfg0.N) (d) : (dat V c).before 0 t d = iblk V c 0 t :=
  (dat V c).before_in_eq_fetched 0 rfl (fun _ => rfl) (fun _ _ _ => rfl) (fun t => (cfg0.win 0).cut_fill _ (Pipeline.Dat.unnamed (cfg := cfg0) 0 t) _) t d
theorem before_1 (c : Dev nD) (t : Fin cfg0.N) (d) : (dat V c).before 1 t d = iblk V c 1 t :=
  (dat V c).before_in_eq_fetched 1 rfl (fun _ => rfl) (fun _ _ _ => rfl) (fun t => (cfg0.win 1).cut_fill _ (Pipeline.Dat.unnamed (cfg := cfg0) 1 t) _) t d
theorem before_2 (c : Dev nD) (t : Fin cfg0.N) (d) : (dat V c).before 2 t d = iblk V c 2 t :=
  (dat V c).before_in_eq_fetched 2 rfl (fun _ => rfl) (fun _ _ _ => rfl) (fun t => (cfg0.win 2).cut_fill _ (Pipeline.Dat.unnamed (cfg := cfg0) 2 t) _) t d
theorem before_3 (c : Dev nD) (t : Fin cfg0.N) (d) : (dat V c).before 3 t d = iblk V c 3 t :=
  (dat V c).before_in_eq_fetched 3 rfl (fun _ => rfl) (fun _ _ _ => rfl) (fun t => (cfg0.win 3).cut_fill _ (Pipeline.Dat.unnamed (cfg := cfg0) 3 t) _) t d
theorem before_4 (c : Dev nD) (t : Fin cfg0.N) (d) : (dat V c).before 4 t d = iblk V c 4 t :=
  (dat V c).before_in_eq_fetched 4 rfl (fun _ => rfl) (fun _ _ _ => rfl) (fun t => (cfg0.win 4).cut_fill _ (Pipeline.Dat.unnamed (cfg := cfg0) 4 t) _) t d
theorem before_5 (c : Dev nD) (t : Fin cfg0.N) (d) : (dat V c).before 5 t d = iblk V c 5 t :=
  (dat V c).before_in_eq_fetched 5 rfl (fun _ => rfl) (fun _ _ _ => rfl) (fun t => (cfg0.win 5).cut_fill _ (Pipeline.Dat.unnamed (cfg := cfg0) 5 t) _) t d
theorem before_6 (c : Dev nD) (t : Fin cfg0.N) (d) : (dat V c).before 6 t d = iblk V c 6 t :=
  (dat V c).before_in_eq_fetched 6 rfl (fun _ => rfl) (fun _ _ _ => rfl) (fun t => (cfg0.win 6).cut_fill _ (Pipeline.Dat.unnamed (cfg := cfg0) 6 t) _) t d
theorem before_7 (c : Dev nD) (t : Fin cfg0.N) (d) : (dat V c).before 7 t d = iblk V c 7 t :=
  (dat V c).before_in_eq_fetched 7 rfl (fun _ => rfl) (fun _ _ _ => rfl) (fun t => (cfg0.win 7).cut_fill _ (Pipeline.Dat.unnamed (cfg := cfg0) 7 t) _) t d
theorem before_8 (c : Dev nD) (t : Fin cfg0.N) (d) : (dat V c).before 8 t d = iblk V c 8 t :=
  (dat V c).before_in_eq_fetched 8 rfl (fun _ => rfl) (fun _ _ _ => rfl) (fun t => (cfg0.win 8).cut_fill _ (Pipeline.Dat.unnamed (cfg := cfg0) 8 t) _) t d
theorem before_9 (c : Dev nD) (t : Fin cfg0.N) (d) : (dat V c).before 9 t d = iblk V c 9 t :=
  (dat V c).before_in_eq_fetched 9 rfl (fun _ => rfl) (fun _ _ _ => rfl) (fun t => (cfg0.win 9).cut_fill _ (Pipeline.Dat.unnamed (cfg := cfg0) 9 t) _) t d

/-- What the body is called with at point `t`, -/
def bodyPre (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ Y, ⌜((dat V c).toRRel fgt (Rl V c)).Finds 10 t Y⌝ ∗ owns (c : Thread nD τ) (st0_10 t) fullShare Y))

/-- and what it returns. -/
def bodyPost (c : Dev nD) (t : Fin cfg0.N) : sProp 𝕄 :=
  iprop((dat V c).Φ t.succ ∗ (dat V c).owesAt none t.succ
    ∗ owns (c : Thread nD τ) (st0_0 t) fullShare (iblk V c 0 t)
    ∗ owns (c : Thread nD τ) (st0_1 t) fullShare (iblk V c 1 t)
    ∗ owns (c : Thread nD τ) (st0_2 t) fullShare (iblk V c 2 t)
    ∗ owns (c : Thread nD τ) (st0_3 t) fullShare (iblk V c 3 t)
    ∗ owns (c : Thread nD τ) (st0_4 t) fullShare (iblk V c 4 t)
    ∗ owns (c : Thread nD τ) (st0_5 t) fullShare (iblk V c 5 t)
    ∗ owns (c : Thread nD τ) (st0_6 t) fullShare (iblk V c 6 t)
    ∗ owns (c : Thread nD τ) (st0_7 t) fullShare (iblk V c 7 t)
    ∗ owns (c : Thread nD τ) (st0_8 t) fullShare (iblk V c 8 t)
    ∗ owns (c : Thread nD τ) (st0_9 t) fullShare (iblk V c 9 t)
    ∗ (∃ X, ⌜BlockIs (F := F) (iblk V c 0 t) (iblk V c 1 t) (iblk V c 2 t) (iblk V c 3 t) (iblk V c 4 t) (iblk V c 5 t) (iblk V c 6 t) (iblk V c 7 t) (iblk V c 8 t) (iblk V c 9 t) X⌝ ∗ owns (c : Thread nD τ) (st0_10 t) fullShare X))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, -, H10⟩⟩
  iapply (band_run c (grid0.coords t) _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := rfl

/-- The library's body obligation, at every point. -/
theorem body_obligation (c : Dev nD) : BodyObligationRel (dat V c) (defs₀ (F := F)) Variants.none none Set.univ fgt (Rl V c) := fun t => by
  rw [bigSep_W0, bigSep_W0, defs₀_row]
  exact triple_restated (sound_body V c t) rfl .rfl fun _ => .rfl

/-- The core's debts to the SparseCores lie at no pipeline index. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The proof data of the launch's one pipeline. -/
abbrev rdats : (p : Fin 1) → (c : Dev nD) → Pipeline.RDat τ (Elt F) (HIx 1) ℕ UU ℕ (Pipeline.pin (pcfgs (F := F)) adm p) c :=
  fun _ c => (dat V c).toRRel fgt (Rl V c)

/-- The buffers with the table's at `G`. -/
def upd (c : Dev nD) (G : Buf (Elt F) ((c : Thread nD τ).loc main_v18)) : (b : Ref sig .tc) → Buf (Elt F) ((c : Thread nD τ).loc b) :=
  Function.update (V c) main_v18 G

theorem rest_upd (c : Dev nD) (G : Buf (Elt F) ((c : Thread nD τ).loc main_v18)) :
    (Pipeline.unscopedRest spec0 c (upd V c G) : sProp 𝕄) = Pipeline.unscopedRest spec0 c (V c) := by
  unfold Pipeline.unscopedRest
  refine bigSep_congr fun b hb => ?_
  have hne : b ≠ main_v18 := fun h => (Finset.mem_sdiff.mp hb).2 (h ▸ Finset.mem_image.mpr ⟨10, Finset.mem_univ _, rfl⟩)
  rw [show upd V c G b = V c b from Function.update_of_ne hne _ _]

theorem in_eq (c : Dev nD) (w : Fin cfg0.W) (hw : (cfg0.win w).isOut = false) {G} (h : ((dat V c).toRRel fgt (Rl V c)).ArrAt w cfg0.N G) :
    G = V c (Pipeline.arrRef spec0 w) := by
  rw [Pipeline.RDat.ArrAt_in _ w hw] at h; exact h

theorem isOut_of_ne (w : Fin cfg0.W) (h : w ≠ 10) : (cfg0.win w).isOut = false := by
  revert w; decide

theorem arrRef_ne (w : Fin cfg0.W) (h : w ≠ 10) : Pipeline.arrRef spec0 w ≠ main_v18 := fun e => h (launch0.win.arr_inj (e.trans rfl))

/-- An input's array ends as it was. -/
theorem exit_in (c : Dev nD) (G' : Buf (Elt F) ((c : Thread nD τ).loc main_v18)) (w : Fin cfg0.W) (h : w ≠ 10) :
    iprop(∃ G, ⌜((dat V c).toRRel fgt (Rl V c)).ArrAt w cfg0.N G⌝ ∗ (((c : Thread nD τ).loc (Pipeline.arrRef spec0 w)) ↦{fullShare} G : sProp 𝕄))
      ⊢ (((c : Thread nD τ).loc (Pipeline.arrRef spec0 w)) ↦{fullShare} upd V c G' (Pipeline.arrRef spec0 w) : sProp 𝕄) := by
  iintro ⟨%G, %hG, H⟩
  rw [show upd V c G' (Pipeline.arrRef spec0 w) = G from (Function.update_of_ne (arrRef_ne w h) _ _).trans (in_eq V c w (isOut_of_ne w h) hG).symm]
  iexact H

/-- The region's arrays and the rest, put back together. -/
theorem exit_arrays (c : Dev nD) :
    iprop((bigSep Finset.univ fun w : Fin cfg0.W => iprop(∃ G, ⌜((dat V c).toRRel fgt (Rl V c)).ArrAt w cfg0.N G⌝ ∗ (((c : Thread nD τ).loc (Pipeline.arrRef spec0 w)) ↦{fullShare} G : sProp 𝕄)))
        ∗ Pipeline.unscopedRest (Ix := HIx 1) (Name := ℕ) (U := UU) (Lvl := ℕ) spec0 c (V c))
      ⊢ iprop(∃ G, ⌜((dat V c).toRRel fgt (Rl V c)).ArrAt 10 cfg0.N G⌝ ∗ unscopedBufs c (upd V c G)) := by
  rw [SparseCore.bigSep_erase' (Finset.mem_univ (10 : Fin cfg0.W))]
  iintro ⟨⟨⟨%G, %hG, H⟩, Hin⟩, Hrest⟩
  iexists G
  isplitr; · ipureintro; exact hG
  iapply (Entails.of_eq (Pipeline.unscopedBufs_split (Pipeline.pin (pcfgs (F := F)) adm) 0 launch0.win.arr_unscoped launch0.win.arr_inj c (upd V c G)).symm)
  isplitr [Hrest]
  · iapply (show _ ⊢ bigSep Finset.univ (fun w : Fin cfg0.W => (((c : Thread nD τ).loc (Pipeline.arrRef spec0 w)) ↦{fullShare} upd V c G (Pipeline.arrRef spec0 w) : sProp 𝕄)) from
      Entails.of_eq (SparseCore.bigSep_erase' (Finset.mem_univ (10 : Fin cfg0.W))).symm)
    isplitl [H]
    · rw [show upd V c G (Pipeline.arrRef spec0 10) = G from Function.update_self _ _ _]
      iexact H
    · iapply (show (bigSep (Finset.univ.erase (10 : Fin cfg0.W)) fun w => iprop(∃ G, ⌜((dat V c).toRRel fgt (Rl V c)).ArrAt w cfg0.N G⌝ ∗ (((c : Thread nD τ).loc (Pipeline.arrRef spec0 w)) ↦{fullShare} G : sProp 𝕄)))
        ⊢ bigSep (Finset.univ.erase 10) (fun w : Fin cfg0.W => (((c : Thread nD τ).loc (Pipeline.arrRef spec0 w)) ↦{fullShare} upd V c G (Pipeline.arrRef spec0 w) : sProp 𝕄)) from
        bigSep_mono fun w hw => exit_in V c G w (Finset.ne_of_mem_erase hw))
      iexact Hin
  · iapply (Entails.of_eq (rest_upd V c G).symm)
    iexact Hrest

set_option backward.isDefEq.respectTransparency.types false in
/-- The band kernel's region over every unscoped buffer of the core. -/
def reg : Pipeline.RDat.RegionSeg (pcfgs (F := F)) adm (rdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).toRRel
  hwaits c := Pipeline.RDat.cellsWaits_intro _ (rdats V) none 0 c fun w s t => (K (F := F)).mayWait_none _ (Otc_none c 0)
  pre c := iprop(unscopedBufs c (V c) ∗ ∃ W, ⌜(K (F := F)).WBelow (SparseCore.T c) W 0⌝ ∗ owes (c : Thread nD τ) ((K (F := F)).Otc c 0) W)
  post c := iprop((∃ G, ⌜((dat V c).toRRel fgt (Rl V c)).ArrAt 10 cfg0.N G⌝ ∗ unscopedBufs c (upd V c G)) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.RDat.arrays_of_unscopedBufs (p := 0) (pcfgs (F := F)) adm (rdats V) launch0.win launch0.arr_whole c
      ((dat V c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · icases HO with ⟨%W, %hW, HO⟩
      iexists W; isplitr
      · ipureintro; exact fun p hp => Or.inl (hW p hp)
      iexact HO
    isplitr; · iempintro
    iexact Hrest
  hin c := by
    rw [show ((rdats V) 0 c).Φ 0 = Pipeline.scopedRest spec0 c from rfl]
    iintro ⟨-, -, Hr⟩; iexact Hr
  hout c := by
    rw [Pipeline.ownSems0_none, show ((rdats V) 0 c).Φ (Fin.last _) = Pipeline.scopedRest spec0 c from rfl]
    iintro Hr
    isplitr; · iempintro
    isplitr; · iempintro
    iexact Hr
  hexit c := by
    rw [Pipeline.RDat.arraysAt_eq (pcfgs (F := F)) adm (rdats V) 0 c launch0.arr_whole ((dat V c).share_full fun _ => rfl)]
    iintro ⟨Ha, HO, -, Hrest⟩
    imodintro
    isplitl [Ha Hrest]
    · iapply (exit_arrays V c)
      isplitl [Ha] <;> iassumption
    · icases HO with ⟨%W, %hW, HO⟩
      iexists W; isplitr
      · ipureintro
        intro p hp
        rcases hW hp with h | ⟨w, s, h⟩
        · exact h
        · rw [h]; exact le_of_eq (SparseCore.Cfg.lev_none _ _)
      iexact HO

end Cert.Proof.Band

end
-- ==== Proof.RegionVal.lean ====
/-
  What the band kernel leaves: row `d`, lane `e` of batch `b` of its table, as one function of the arrays it was given.
-/
module

public import proofs.«01_k».proof.Proof.Region
public import Idealize.ShloMosaic.Lib.Pipeline.ValueKit.Geometry

@[expose] public section

set_option maxRecDepth 16384

noncomputable section

namespace Cert.Proof.Band

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA
open Idealize.ShloMosaic.Rounds
open Idealize.ShloMosaic.Pipeline (Dat)

variable {F : FTy → Type} [FloatOps F] [Named F]

/-- One batch's words. -/
def bslab (a : Vec F S16x128x300 .f32) (b : Fin 16) : Vec F S1x128x300 .f32 :=
  fun j => a (ix3 b (⟨(j 1).val, (j 1).isLt⟩ : Fin 128) (⟨(j 2).val, (j 2).isLt⟩ : Fin 300))

/-- Row `d`, lane `e` of batch `b` of the table. -/
def bandAt (a0 : Vec F S25x25 .f32) (a1 a2 : Vec F S16x128x300 .f32) (a3 : Vec F S25x50 .f32) (a4 : Vec F S650x300 .f32) (a5 a6 a7 : Vec F S1x300 .f32) (a8 : Vec F S300x1 .f32) (a9 : Vec F S1x1 .f32)
    (b : Fin 16) (d : Fin 25) (e : Fin 128) : F .f32 :=
  storedRow a0 a3 a4 a5 a6 a7 a8 a9 (fun _ => bslab a1 b) (fun _ => bslab a2 b) 0 d (ix3 0 0 e)

variable (V : (c : Dev nD) → (b : Ref sig .tc) → Buf (Elt F) ((c : Thread nD τ).loc b))

/-! The windows whose block is the whole array. -/

theorem iblk_0 (c : Dev nD) (t : Fin cfg0.N) : iblk V c 0 t = V c main_v11 := by
  funext j
  exact congrArg (V c main_v11) (funext fun a => Fin.ext (win0_0.rect_emb_val_of_index_zero t a (by fin_cases a <;> rfl) j))
theorem iblk_3 (c : Dev nD) (t : Fin cfg0.N) : iblk V c 3 t = V c main_arg3 := by
  funext j
  exact congrArg (V c main_arg3) (funext fun a => Fin.ext (win0_3.rect_emb_val_of_index_zero t a (by fin_cases a <;> rfl) j))
theorem iblk_4 (c : Dev nD) (t : Fin cfg0.N) : iblk V c 4 t = V c main_arg4 := by
  funext j
  exact congrArg (V c main_arg4) (funext fun a => Fin.ext (win0_4.rect_emb_val_of_index_zero t a (by fin_cases a <;> rfl) j))
theorem iblk_5 (c : Dev nD) (t : Fin cfg0.N) : iblk V c 5 t = V c main_v14 := by
  funext j
  exact congrArg (V c main_v14) (funext fun a => Fin.ext (win0_5.rect_emb_val_of_index_zero t a (by fin_cases a <;> rfl) j))
theorem iblk_6 (c : Dev nD) (t : Fin cfg0.N) : iblk V c 6 t = V c main_v15 := by
  funext j
  exact congrArg (V c main_v15) (funext fun a => Fin.ext (win0_6.rect_emb_val_of_index_zero t a (by fin_cases a <;> rfl) j))
theorem iblk_7 (c : Dev nD) (t : Fin cfg0.N) : iblk V c 7 t = V c main_v16 := by
  funext j
  exact congrArg (V c main_v16) (funext fun a => Fin.ext (win0_7.rect_emb_val_of_index_zero t a (by fin_cases a <;> rfl) j))
theorem iblk_8 (c : Dev nD) (t : Fin cfg0.N) : iblk V c 8 t = V c main_arg8 := by
  funext j
  exact congrArg (V c main_arg8) (funext fun a => Fin.ext (win0_8.rect_emb_val_of_index_zero t a (by fin_cases a <;> rfl) j))
theorem iblk_9 (c : Dev nD) (t : Fin cfg0.N) : iblk V c 9 t = V c main_v17 := by
  funext j
  exact congrArg (V c main_v17) (funext fun a => Fin.ext (win0_9.rect_emb_val_of_index_zero t a (by fin_cases a <;> rfl) j))

theorem index_1 : ∀ t : Fin cfg0.N, win0_1.index t 0 = t.val := by decide
theorem index_2 : ∀ t : Fin cfg0.N, win0_2.index t 0 = t.val := by decide
theorem index_10 : ∀ t : Fin cfg0.N, win0_10.index t 0 = t.val := by decide

theorem slab_1 (c : Dev nD) (t : Fin cfg0.N) (bb : Fin 2) (b : Fin 16) (h : b.val = 2 * t.val + bb.val) : slab (F := F) (iblk V c 1 t) bb = bslab (V c main_v12) b := by
  funext j
  refine congrArg (V c main_v12) (funext fun a => Fin.ext ((win0_1.rect_emb_val t _ a).trans ?_))
  fin_cases a
  · show win0_1.index t 0 * 2 + bb.val = b.val
    rw [h, index_1 t]; omega
  · show win0_1.index t 1 * 128 + (j 1).val = (j 1).val
    rw [show win0_1.index t 1 = 0 from rfl]; omega
  · show win0_1.index t 2 * 300 + (j 2).val = (j 2).val
    rw [show win0_1.index t 2 = 0 from rfl]; omega

theorem slab_2 (c : Dev nD) (t : Fin cfg0.N) (bb : Fin 2) (b : Fin 16) (h : b.val = 2 * t.val + bb.val) : slab (F := F) (iblk V c 2 t) bb = bslab (V c main_v13) b := by
  funext j
  refine congrArg (V c main_v13) (funext fun a => Fin.ext ((win0_2.rect_emb_val t _ a).trans ?_))
  fin_cases a
  · show win0_2.index t 0 * 2 + bb.val = b.val
    rw [h, index_2 t]; omega
  · show win0_2.index t 1 * 128 + (j 1).val = (j 1).val
    rw [show win0_2.index t 1 = 0 from rfl]; omega
  · show win0_2.index t 2 * 300 + (j 2).val = (j 2).val
    rw [show win0_2.index t 2 = 0 from rfl]; omega

theorem emb_10 (t : Fin cfg0.N) (y : S2x32x128.Idx) (a : Fin 3) :
    ((cfg0.win 10).blk t).view.emb y a = (if a = 0 then 2 * t.val else 0) + (y a).val := by
  refine (win0_10.rect_emb_val t y a).trans ?_
  fin_cases a
  · show win0_10.index t 0 * 2 + (y 0).val = 2 * t.val + (y 0).val
    rw [index_10 t]; omega
  · show win0_10.index t 1 * 32 + (y 1).val = 0 + (y 1).val
    rw [show win0_10.index t 1 = 0 from rfl, Nat.zero_mul]
  · show win0_10.index t 2 * 128 + (y 2).val = 0 + (y 2).val
    rw [show win0_10.index t 2 = 0 from rfl, Nat.zero_mul]

/-- The row a batch's block holds does not depend on where in the block the batch lies. -/
theorem stored_at (l0 : Vec F S25x25 .f32) (l3 : Vec F S25x50 .f32) (l4 : Vec F S650x300 .f32) (l5 l6 l7 : Vec F S1x300 .f32) (l8 : Vec F S300x1 .f32) (l9 : Vec F S1x1 .f32)
    (he hc : Fin 2 → Vec F S1x128x300 .f32) (a1 a2 : Vec F S16x128x300 .f32) (y : S2x32x128.Idx) (hy : (y 1).val < 25) (b : Fin 16) (e : Fin 128) (he' : (y 2).val = e.val)
    (h1 : he ⟨(y 0).val, (y 0).isLt⟩ = bslab a1 b) (h2 : hc ⟨(y 0).val, (y 0).isLt⟩ = bslab a2 b) :
    stored l0 l3 l4 l5 l6 l7 l8 l9 he hc y = bandAt l0 a1 a2 l3 l4 l5 l6 l7 l8 l9 b ⟨(y 1).val, hy⟩ e := by
  unfold stored bandAt storedRow
  rw [h1, h2, show (⟨(y 1).val % 25, Nat.mod_lt _ (by omega)⟩ : Fin 25) = ⟨(y 1).val, hy⟩ from Fin.ext (Nat.mod_eq_of_lt hy),
    show (⟨(y 2).val, (y 2).isLt⟩ : Fin 128) = e from Fin.ext he']

/-- The table after the region, at its first twenty-five rows. -/
theorem table_of (c : Dev nD) (G : Buf (Elt F) ((c : Thread nD τ).loc main_v18)) (h : ((dat V c).toRRel fgt (Rl V c)).ArrAt 10 cfg0.N G)
    (i : S16x32x128.Idx) (hi : (i 1).val < 25) :
    G i = bandAt (F := F) (V c main_v11) (V c main_v12) (V c main_v13) (V c main_arg3) (V c main_arg4) (V c main_v14) (V c main_v15) (V c main_v16) (V c main_arg8) (V c main_v17)
      ⟨(i 0).val, (i 0).isLt⟩ ⟨(i 1).val, hi⟩ ⟨(i 2).val, (i 2).isLt⟩ := by
  obtain ⟨X, hX, hA⟩ := h.exists_exact
  rw [hA (Function.update (fun _ _ _ => Classical.arbitrary _) 10 X) fun u _ _ => by rw [Function.update_self]]
  refine (((dat V c).toRRel fgt (Rl V c)).withAfter (Function.update (fun _ _ _ => Classical.arbitrary _) 10 X)).arrAt_forall_of_covers 10
    (fun i v => ∀ hi : (i 1).val < 25, v = bandAt (F := F) (V c main_v11) (V c main_v12) (V c main_v13) (V c main_arg3) (V c main_arg4) (V c main_v14) (V c main_v15) (V c main_v16) (V c main_arg8) (V c main_v17)
      ⟨(i 0).val, (i 0).isLt⟩ ⟨(i 1).val, hi⟩ ⟨(i 2).val, (i 2).isLt⟩) (by decide +kernel) (fun t hf y => ?_) i (Memref.isWhole_whole _) hi
  intro hy
  have hR := (dat V c).toRRel_leaves (Rl := Rl V c) (w := 10) rfl (hX t t.isLt hf)
  have e0 := emb_10 t y 0
  have e1 := emb_10 t y 1
  have e2 := emb_10 t y 2
  have hy1 : (y 1).val < 25 := by
    have : (((cfg0.win 10).blk t).view.emb y 1).val = (y 1).val := by rw [e1]; simp
    omega
  refine Eq.trans ?_ (((hR y hy1).trans (stored_at _ _ _ _ _ _ _ _ _ _ (V c main_v12) (V c main_v13) y hy1 ⟨(((cfg0.win 10).blk t).view.emb y 0).val, (((cfg0.win 10).blk t).view.emb y 0).isLt⟩ ⟨(((cfg0.win 10).blk t).view.emb y 2).val, (((cfg0.win 10).blk t).view.emb y 2).isLt⟩
    (by rw [← Nat.zero_add (y 2).val]; exact e2.symm) (slab_1 V c t _ _ e0) (slab_2 V c t _ _ e0))).trans ?_)
  · rw [Pipeline.RDat.withAfter_after, Function.update_self]; rfl
  · rw [iblk_0, iblk_3, iblk_4, iblk_5, iblk_6, iblk_7, iblk_8, iblk_9]
    congr 1
    exact Fin.ext (by rw [← Nat.zero_add (y 1).val]; exact e1.symm)

end Cert.Proof.Band

end
-- ==== Proof.Tile.lean ====
/-
  The SparseCore call: thirty-two tasks, task `2 i + c` on subcore `i` of SparseCore `c`, each fetching its 1536 word
  addresses, gathering those words of the table by the indirect stream and copying them out to its chunk of the result. Every
  task reads all of the table at once: the call's split hands each one of the thirty-two shares of it. The table is
  known only where the addresses point (`Good`), and that is enough to say every word of the result (`outV`).
-/
module

public import proofs.«01_k».proof.Proof.Setup
public import proofs.«01_k».proof.Proof.Gen.KernelIdeal.Skeleton
public import Idealize.ShloMosaic.Lib.ShareLeaves
public import Idealize.ShloMosaic.Lib.Writes
public import Idealize.ShloMosaic.Lib.Pipeline.ValueKit.Geometry
public import Idealize.ShloMosaic.Lib.ValueIdxCore

@[expose] public section

noncomputable section

namespace Cert.Proof.Band

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
theorem nCore_zero : (K (F := F)).nCore 0 = 2 := rfl

abbrev tLoc (d : Dev nD) : Loc nD τ sig := (SparseCore.T d).loc main_v19
abbrev iLoc (d : Dev nD) : Loc nD τ sig := (SparseCore.T d).loc main_c
abbrev oLoc (d : Dev nD) : Loc nD τ sig := (SparseCore.T d).loc main_v20

local notation "tV" => (Memref.whole Cert.KernelIdeal.main_v19_scv : Memref Cert.KernelIdeal.sig Kind.scVector Space.hbm Cert.KernelIdeal.S65536 EltTy.f32)
local notation "iV" => (Memref.whole Cert.KernelIdeal.main_c_scv : Memref Cert.KernelIdeal.sig Kind.scVector Space.hbm Cert.KernelIdeal.S49152 EltTy.i32)
local notation "oV" => (Memref.whole Cert.KernelIdeal.main_v20_scv : Memref Cert.KernelIdeal.sig Kind.scVector Space.hbm Cert.KernelIdeal.S49152 EltTy.f32)
local notation "sV" => (Memref.whole Cert.KernelIdeal.cc1_scratch0 : Memref Cert.KernelIdeal.sig Kind.scVector Space.vmem Cert.KernelIdeal.S1536 EltTy.i32)
local notation "rV" => (Memref.whole Cert.KernelIdeal.cc1_scratch1 : Memref Cert.KernelIdeal.sig Kind.scVector Space.vmem Cert.KernelIdeal.S1536 EltTy.f32)

theorem chunkDiv : 32 ∣ S49152.size 0 := ⟨1536, rfl⟩
/-- Chunk `w` of the addresses or of the result. -/
abbrev chunk (w : Fin 32) : Rect S49152 := Rect.part (s := S49152) (a₀ := 0) chunkDiv w
abbrev iSet (w : Fin 32) : Finset S49152.Idx := ((iV).view.slice (chunk w)).set
abbrev oSet (w : Fin 32) : Finset S49152.Idx := ((oV).view.slice (chunk w)).set

/-- The task of subcore `i` of SparseCore `c`. -/
def taskOf (c : Fin 2) (i : Fin 16) : Fin 32 := ⟨2 * i.val + c.val, by omega⟩

/-- The task's share of the table. -/
abbrev tq (w : Fin 32) : PosShare TreeShare := leaf 5 fullShare w

-- The word addresses, and that they are words of the table.
variable (idxC : S49152.Idx → BitVec 32) (hlt : ∀ j, (idxC j).toNat < 65536)

/-- The addresses' array. -/
def wordsC (F : FTy → Type) (idxC : S49152.Idx → BitVec 32) (d : Dev nD) : Buf (Elt F) (iLoc d) := idxC

/-- Word `j` of the addresses, as a place of the table. -/
def placeOf (idxC : S49152.Idx → BitVec 32) (hlt : ∀ j, (idxC j).toNat < 65536) (j : S49152.Idx) : S65536.Idx :=
  ValueIdx.ix1 (⟨(idxC j).toNat, hlt j⟩ : Fin 65536)

variable [FloatOps F] [Named F]
variable (m : (ℓ : Loc nD τ sig) → Buf (Elt F) ℓ)
variable (Good : (d : Dev nD) → Buf (Elt F) (tLoc d) → Prop) (outV : (d : Dev nD) → Buf (Elt F) (oLoc d))

/-- What a task is given: its share of the table, its chunk of the addresses, its chunk of the result. -/
abbrev goWith (d : Dev nD) (f : Buf (Elt F) (tLoc d)) (w : Fin 32) : sProp 𝕄 :=
  iprop((tLoc d ↦{tq w} f) ∗ (iLoc d ↦[iSet w]{fullShare} wordsC F idxC d) ∗ (oLoc d ↦[oSet w]{fullShare} m (oLoc d)))
abbrev goPts (d : Dev nD) (w : Fin 32) : sProp 𝕄 := iprop(∃ f, ⌜Good d f⌝ ∗ goWith idxC m d f w)
/-- What it brings back: its chunk of the result, filled in. -/
abbrev tdPts (d : Dev nD) (w : Fin 32) : sProp 𝕄 := oLoc d ↦[oSet w]{fullShare} outV d
abbrev stPts (d : Dev nD) (c : Fin 2) : sProp 𝕄 := iprop(∃ f, ⌜Good d f⌝ ∗ bigSep Finset.univ fun i : Fin 16 => goWith idxC m d f (taskOf c i))
abbrev dnPts (d : Dev nD) (c : Fin 2) : sProp 𝕄 := bigSep Finset.univ fun i : Fin 16 => tdPts (F := F) outV d (taskOf c i)

/-- The one call's payloads. -/
def P : (K (F := F)).Pay (nD := nD) (Val := Elt F) (Name := ℕ) (U := UU) where
  st := fun q d c => match q with | 0 => stPts idxC m Good d (Fin.cast nCore_zero c)
  dn := fun q d c => match q with | 0 => dnPts outV d (Fin.cast nCore_zero c)
  go := fun q d c i => match q with | 0 => goPts idxC m Good d (taskOf (Fin.cast nCore_zero c) (Fin.cast nSub_zero i))
  td := fun q d c i => match q with | 0 => tdPts outV d (taskOf (Fin.cast nCore_zero c) (Fin.cast nSub_zero i))
  x := fun _ _ => iprop(emp)

instance P_storable : (P (F := F) idxC m Good outV).IsStorable where
  st q d c := match q with
    | 0 => (inferInstance : BI.Storable (upEmb : UEmb _ 𝕄) (stPts idxC m Good d (Fin.cast nCore_zero c)))
  dn q d c := match q with
    | 0 => (inferInstance : BI.Storable (upEmb : UEmb _ 𝕄) (dnPts outV d (Fin.cast nCore_zero c)))
  go q d c i := match q with
    | 0 => (inferInstance : BI.Storable (upEmb : UEmb _ 𝕄) (goPts idxC m Good d (taskOf (Fin.cast nCore_zero c) (Fin.cast nSub_zero i))))
  td q d c i := match q with
    | 0 => (inferInstance : BI.Storable (upEmb : UEmb _ 𝕄) (tdPts outV d (taskOf (Fin.cast nCore_zero c) (Fin.cast nSub_zero i))))

/-! ## The task -/

section Tile

variable (d : Dev nD) (L : grid1.Coords)

abbrev cV (L : grid1.Coords) : Fin τ.nSC := (L 0).castLE hcore1
abbrev jV (L : grid1.Coords) : Fin τ.nSub := (L 1).castLE hsub1
omit [FloatOps F] [Named F] in
theorem bound_zero : grid1.bound 0 = 2 := rfl
omit [FloatOps F] [Named F] in
theorem bound_one : grid1.bound 1 = 16 := rfl
/-- The task's number. -/
abbrev wL (L : grid1.Coords) : Fin 32 := taskOf (Fin.cast bound_zero (L 0)) (Fin.cast bound_one (L 1))

abbrev chunkK (L : grid1.Coords) : Rect S49152 := Rect.unit (s := S49152) (k1_off1 L) S1536.size (k1_off1_inb L)
/-- The task's chunks and all of the table, as the task addresses them. -/
abbrev iChunkK (L : grid1.Coords) : Memref sig .scVector .hbm S1536 .i32 := (iV).slice (chunkK L) (fun _ => rfl)
abbrev oChunkK (L : grid1.Coords) : Memref sig .scVector .hbm S1536 .f32 := (oV).slice (chunkK L) (fun _ => rfl)
abbrev tAllK : Memref sig .scVector .hbm S65536 .f32 := (tV).slice (Rect.unit (s := S65536) ![0] S65536.size inb_S65536_S65536_0) (fun _ => rfl)

omit [FloatOps F] [Named F] in
theorem chunkK_eq : chunkK L = chunk (wL L) := by
  unfold chunkK chunk Rect.part Rect.block
  congr 1 <;> funext a
  · rw [k1_off1_eq]
    match a with
    | 0 =>
      have h0 : ((Fin.cast bound_zero (L 0)) : ℕ) = (L 0 : ℕ) := rfl
      have h1 : ((Fin.cast bound_one (L 1)) : ℕ) = (L 1 : ℕ) := rfl
      have e : (taskOf (Fin.cast bound_zero (L 0)) (Fin.cast bound_one (L 1))).val = 2 * (L 1).val + (L 0).val := rfl
      simp only [Matrix.cons_val_fin_one, Shape.partIx, Shape.partSize, wL, e]
      simp [S49152]
      rw [show ((L 1) : ℕ) = (L 1).val from rfl]
      omega
  · match a with
    | 0 => simp [Shape.partSize, S49152]

omit [FloatOps F] [Named F] in
theorem set_iChunkK : (iChunkK L).view.set = iSet (wL L) := by
  show ((iV).view.slice (chunkK L)).set = ((iV).view.slice (chunk (wL L))).set
  exact chunkK_eq L ▸ rfl
omit [FloatOps F] [Named F] in
theorem set_oChunkK : (oChunkK L).view.set = oSet (wL L) := by
  show ((oV).view.slice (chunkK L)).set = ((oV).view.slice (chunk (wL L))).set
  exact chunkK_eq L ▸ rfl

omit [FloatOps F] [Named F] in
theorem pts_iChunkK (f : Buf (Elt F) (iLoc d)) :
    ((iChunkK L).view.loc (V d (cV L) (jV L)) ↦[(iChunkK L).view.set]{fullShare} f : sProp 𝕄) = iLoc d ↦[iSet (wL L)]{fullShare} f := by
  rw [set_iChunkK]
omit [FloatOps F] [Named F] in
theorem pts_oChunkK (f : Buf (Elt F) (oLoc d)) :
    ((oChunkK L).view.loc (V d (cV L) (jV L)) ↦[(oChunkK L).view.set]{fullShare} f : sProp 𝕄) = oLoc d ↦[oSet (wL L)]{fullShare} f := by
  rw [set_oChunkK]
omit [FloatOps F] [Named F] in
theorem pts_tV (q : PosShare TreeShare) (f : Buf (Elt F) (tLoc d)) :
    ((tV).view.loc (V d (cV L) (jV L)) ↦{q} f : sProp 𝕄) = tLoc d ↦{q} f := rfl
omit [FloatOps F] [Named F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] [Named F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] [Named F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [Named F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The addresses fetched into the scratch, read back: the task's chunk of the constant. -/
theorem fetched (fs : Buf (Elt F) ((V d (cV L) (jV L)).loc cc1_scratch0)) (pay : S1536.Idx → Elt F .i32)
    (hpay : pay = (iChunkK L).view.read (Elt F) (wordsC F idxC d)) (x : S1536.Idx) :
    (sV).view.read (Elt F) (View.write (Elt F) (sV).view fs pay Finset.univ) x = idxC ((chunkK L).emb x) := by
  subst hpay
  rw [View.write_whole_univ]
  simp only [Memref.view_whole, View.read_whole]
  exact (View.read_apply _ _).trans (cast_eq _ _)

include hlt in
/-- They are in range. -/
theorem fetched_lt (fs : Buf (Elt F) ((V d (cV L) (jV L)).loc cc1_scratch0)) (pay : S1536.Idx → Elt F .i32)
    (hpay : pay = (iChunkK L).view.read (Elt F) (wordsC F idxC d)) :
    ∀ x, ((sV).view.read (Elt F) (View.write (Elt F) (sV).view fs pay Finset.univ) x).toNat < S65536.size gathers_S65536_S1536.axis := by
  intro x
  rw [fetched idxC d L fs pay hpay x]
  exact hlt _

/-- What the stream lands: word `x` of the task's chunk is the table's at the address there. -/
theorem gathered (fs : Buf (Elt F) ((V d (cV L) (jV L)).loc cc1_scratch0)) (pay : S1536.Idx → Elt F .i32)
    (hpay : pay = (iChunkK L).view.read (Elt F) (wordsC F idxC d)) (f : Buf (Elt F) (tLoc d))
    (hn : S1536.numel = S1536.size gathers_S65536_S1536.axis')
    (hin : ∀ x, ((sV).view.read (Elt F) (View.write (Elt F) (sV).view fs pay Finset.univ) x).toNat < S65536.size gathers_S65536_S1536.axis)
    (x : S1536.Idx) :
    SparseCore.gatherPayload gathers_S65536_S1536 ((tAllK).view.read (Elt F) f)
        (SparseCore.rows ((sV).view.read (Elt F) (View.write (Elt F) (sV).view fs pay Finset.univ)) hn hin) x
      = f (placeOf idxC hlt ((chunkK L).emb x)) := by
  unfold SparseCore.gatherPayload
  refine ((View.read_apply _ _).trans (cast_eq _ _)).trans (congrArg f ?_)
  funext a
  refine Fin.ext ?_
  match a with
  | 0 =>
    show 0 + 1 * ((gathers_S65536_S1536.idx _ x) 0).val = (idxC ((chunkK L).emb x)).toNat
    rw [zero_add, one_mul]
    refine (congrArg Fin.val (gathers_S65536_S1536.idx_axis _ x)).trans ?_
    unfold SparseCore.rows
    show BitVec.toNat _ = _
    rw [fetched idxC d L fs pay hpay]
    refine congrArg (fun z => (idxC ((chunkK L).emb z)).toNat) ?_
    refine (Equiv.symm_apply_eq _).2 (Fin.ext ?_)
    exact (Shape.rowMajor_val_one (d := ![1536]) x).symm

omit [FloatOps F] [Named F] in
/-- The result's chunk, written with what `g` has there, is `g`'s. -/
theorem out_pts (fo : Buf (Elt F) (oLoc d)) (pay : S1536.Idx → Elt F .f32) (g : Buf (Elt F) (oLoc d)) (h : ∀ x, pay x = g ((chunkK L).emb x)) :
    ((oChunkK L).view.loc (V d (cV L) (jV L)) ↦[(oChunkK L).view.set]{fullShare}
        (oChunkK L).view.writes (Elt F) fo [⟨Rect.whole S1536, pay⟩] : sProp 𝕄)
      = oLoc d ↦[oSet (wL L)]{fullShare} g := by
  rw [← pts_oChunkK]
  refine pointsTo_congr fun i hi => ?_
  obtain ⟨x, -, rfl⟩ := Finset.mem_map.1 hi
  have e : ((oChunkK L).view.slice (Rect.whole S1536)).emb x = (oChunkK L).view.emb x := congrArg (oChunkK L).view.emb (Rect.emb_whole_apply S1536 x)
  refine Eq.trans ?_ (h x)
  rw [← e]
  exact View.write_emb_of_mem (v := (oChunkK L).view.slice (Rect.whole S1536)) fo pay (Finset.mem_univ x)

omit [FloatOps F] [Named F] in
/-- The gather's rows credit its semaphore, together, what the whole buffer does. -/
theorem rows_credit (h : S65536.Gathers 0 S1536) : ∑ j, ((rV).slice (S1536.rowRect h.axis' j) (S1536.stride_rowRect h.axis' j)).view.dmaCredit
    = (rV).view.dmaCredit := by
  have e : ∀ j, ((rV).slice (S1536.rowRect h.axis' j) (S1536.stride_rowRect h.axis' j)).view.dmaCredit
      = sig.dmaCredit .scVector (Kind.scVector.table .vmem) cc1_scratch1.idx ⟨1, ![1]⟩ .f32 := fun j =>
    View.dmaCredit_closed _ ⟨1, ![1]⟩ (by show (⟨1, _⟩ : Shape) = _; congr 1; funext a; match a with | 0 => rfl) _ rfl _ rfl
  rw [Finset.sum_congr rfl fun j _ => e j, Finset.sum_const, Finset.card_univ, Fintype.card_fin]
  show 1536 • _ = _
  decide

set_option maxHeartbeats 4000000 in
/-- The task: the addresses' fetch and its wait, the indirect gather and its wait, the write-out and its wait. -/
theorem tile_body (hF : (K (F := F)).Facts) (hG : ∀ d f, Good d f → ∀ j, outV d j = f (placeOf idxC hlt j))
    (O : CellTallies nD τ sig (HIx 1)) (W : Waits sig (HIx 1)) (hO : ∀ g, O g none = 0) :
    iprop(levAts (K (F := F)).L (K (F := F)).lev ∗ emp ∗ goPts idxC m Good d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L tV (Memref.isWhole_whole _) iV (Memref.isWhole_whole _) oV (Memref.isWhole_whole _)
            sV (Memref.isWhole_whole _) rV (Memref.isWhole_whole _) cc1_scratch2 cc1_scoped0 cc1_scoped1)
          fun _ => iprop(tdPts (F := F) outV d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_body_eq_skeleton]; unfold cc1__gather_body_skel
  rw [(K (F := F)).scopedBufs_V hF d (cV L) (jV L), SparseCore.Cfg.scopedSems0_V (Val := Elt F) d (cV L) (jV L), ownSems0_V, ownBufs_V]
  iintro ⟨#Hlv, -, ⟨%f, %hf, Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iChunkK (F := F) d L _).symm) $$ Hi
  ihave Ho' := (Entails.of_eq (pts_oChunkK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := tq (wL L)) (f := f) (S := Finset.univ) (Finset.subset_univ (tAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 idxC d L) Finset.univ : sProp 𝕄)
      = (sV).view.loc (V d (cV L) (jV L)) ↦[(sV).view.set]{fullShare} View.write (Elt F) (sV).view fs (tile_body.sl.dma0 idxC d L) Finset.univ
      by rw [hss])) $$ Hs'
  have hN : ∀ h : S65536.Gathers 0 S1536, ∑ j, ((rV).slice (S1536.rowRect h.axis' j) (S1536.stride_rowRect h.axis' j)).view.dmaCredit
      = (rV).view.dmaCredit := rows_credit
  iapply (SparseCore.wp_indirectGatherLocal countersEmb 𝒱₀ (V d (cV L) (jV L)) none (hg := gathers_S65536_S1536) (default : HIx 1)
      (rV).view.dmaCredit (hN _) (by decide) (fetched_lt idxC hlt d L fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Ho']
  · iapply (Entails.of_eq (out_pts d L _ (tile_body.sl.dma0_1 idxC hlt d L f fs fr) (outV d) (fun x => by
      refine Eq.trans ?_ (hG d f hf _).symm
      unfold tile_body.sl.dma0_1
      refine Eq.trans ?_ (gathered idxC hlt d L fs _ rfl f rfl (fetched_lt idxC hlt d L fs _ rfl) x)
      rw [View.write_whole_univ]
      rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hG : ∀ d f, Good d f → ∀ j, outV d j = f (placeOf idxC hlt j)) :
    (K (F := F)).TileObl (D (F := F)) 𝒱 (P idxC m Good outV) v₀ 0 := by
  intro d c i O W hO _ _
  simp only [show (P idxC m Good outV).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body idxC hlt m Good outV d (coordsV ⟨_, hci.1⟩ ⟨_, hci.2⟩) hF hG O W hO).trans (wp_mono frame _ _ fun _ => obl_post)

end Tile

/-! ## The split of a SparseCore's operands among its subcores -/

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] [Named F] in
/-- What is known of the table, every task knows. -/
theorem know (d : Dev nD) (f : Buf (Elt F) (tLoc d)) (hf : Good d f) (w : Fin 32) : goWith idxC m d f w ⊢ goPts idxC m Good d w := by
  iintro H; iexists f; isplitr; · ipureintro; exact hf
  iexact H

omit [FloatOps F] [Named F] in
theorem knowAll (d : Dev nD) (f : Buf (Elt F) (tLoc d)) (hf : Good d f) (c : Fin 2) :
    (bigSep Finset.univ fun i : Fin 16 => goWith idxC m d f (taskOf c i)) ⊢ stPts idxC m Good d c := by
  iintro H; iexists f; isplitr; · ipureintro; exact hf
  iexact H

theorem vecSplit : (K (F := F)).VecSplit' (P idxC m Good outV) 0 := by
  intro d c
  show stPts idxC m Good d (Fin.cast nCore_zero c) ⊢ |={Set.univ}=> iprop(
      (bigSep Finset.univ fun i : Fin ((K (F := F)).nSub 0) => goPts idxC m Good d (taskOf (Fin.cast nCore_zero c) (Fin.cast nSub_zero i)))
      ∗ ((bigSep Finset.univ fun i : Fin ((K (F := F)).nSub 0) => tdPts (F := F) outV d (taskOf (Fin.cast nCore_zero c) (Fin.cast nSub_zero i)))
          -∗ dnPts outV d (Fin.cast nCore_zero c)))
  rw [bigSep_tasks (F := F) (fun i => goPts idxC m Good d (taskOf (Fin.cast nCore_zero c) i)),
    bigSep_tasks (F := F) (fun i => tdPts (F := F) outV d (taskOf (Fin.cast nCore_zero c) i))]
  iintro ⟨%f, %hf, H⟩; imodintro
  isplitl [H]
  · iapply (show (bigSep Finset.univ fun i : Fin 16 => goWith idxC m d f (taskOf (Fin.cast nCore_zero c) i))
        ⊢ bigSep Finset.univ fun i : Fin 16 => goPts idxC m Good d (taskOf (Fin.cast nCore_zero c) i) from
      bigSep_mono fun i _ => know idxC m Good d f hf (taskOf (Fin.cast nCore_zero c) i))
    iexact H
  iintro H; iexact H

/-! ## The arrays split among the thirty-two tasks and join again -/

/-- Core and subcore, and the task. -/
def taskEquiv : Fin 2 × Fin 16 ≃ Fin 32 where
  toFun p := taskOf p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] [Named F] in
theorem bigSep_byTask (Φ : Fin 32 → sProp 𝕄) :
    bigSep Finset.univ Φ = bigSep Finset.univ fun c : Fin 2 => bigSep Finset.univ fun i : Fin 16 => Φ (taskOf c i) :=
  (bigSep_univ_equiv taskEquiv Φ).trans (bigSep_univ_prod _)

omit [FloatOps F] [Named F] in
theorem iSet_eq (w : Fin 32) : iSet w = (chunk w).set := by
  show ((View.whole (main_c_scv : Ref sig .scVector)).slice (chunk w)).set = _
  rw [View.set_slice]; exact Finset.map_refl
omit [FloatOps F] [Named F] in
theorem oSet_eq (w : Fin 32) : oSet w = (chunk w).set := by
  show ((View.whole (main_v20_scv : Ref sig .scVector)).slice (chunk w)).set = _
  rw [View.set_slice]; exact Finset.map_refl
omit [FloatOps F] [Named F] in
theorem iPts_chunks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun i _ j _ h => by rw [iSet_eq, iSet_eq]; exact Rect.part_disjoint chunkDiv h,
    (Finset.biUnion_congr rfl fun i _ => iSet_eq i).trans (Rect.biUnion_part chunkDiv)]
  try rfl
omit [FloatOps F] [Named F] in
theorem oPts_chunks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun i _ j _ h => by rw [oSet_eq, oSet_eq]; exact Rect.part_disjoint chunkDiv h,
    (Finset.biUnion_congr rfl fun i _ => oSet_eq i).trans (Rect.biUnion_part chunkDiv)]
  try rfl
omit [FloatOps F] [Named F] in
theorem tPts_shares (d : Dev nD) (f : Buf (Elt F) (tLoc d)) :
    (tLoc d ↦{fullShare} f : sProp 𝕄) = bigSep Finset.univ fun w : Fin 32 => tLoc d ↦{tq w} f :=
  pointsTo_leaves Finset.univ f 5 fullShare

/-- The three arrays, the table at words known to be good, are what the call takes. -/
theorem st_of (d : Dev nD) (f : Buf (Elt F) (tLoc d)) (hf : Good d f) :
    iprop((tLoc d ↦{fullShare} f) ∗ (iLoc d ↦{fullShare} wordsC F idxC d) ∗ (oLoc d ↦{fullShare} m (oLoc d)))
      ⊢ bigSep Finset.univ fun c : Fin ((K (F := F)).nCore 0) => (P idxC m Good outV).st 0 d c := by
  show _ ⊢ bigSep Finset.univ fun c : Fin ((K (F := F)).nCore 0) => stPts idxC m Good d (Fin.cast nCore_zero c)
  rw [bigSep_cores (F := F) (fun c => stPts idxC m Good d c), iPts_chunks, oPts_chunks, tPts_shares, ← bigSep_sep', ← bigSep_sep',
    bigSep_byTask]
  exact bigSep_mono fun c _ => knowAll idxC m Good d f hf c

/-- What the call brings back is the result, whole. -/
theorem of_dn (d : Dev nD) :
    (bigSep Finset.univ fun c : Fin ((K (F := F)).nCore 0) => (P idxC m Good outV).dn 0 d c) = (oLoc d ↦{fullShare} outV d : sProp 𝕄) := by
  show (bigSep Finset.univ fun c : Fin ((K (F := F)).nCore 0) => dnPts outV d (Fin.cast nCore_zero c)) = _
  rw [bigSep_cores (F := F) (fun c => dnPts outV d c), oPts_chunks, bigSep_byTask]

end Cert.Proof.Band

end
-- ==== Proof.Words.lean ====
/-
  The table of word addresses the gather reads, in closed form: for batch `b`, the address of pair `n` is
  `b * 4096 + (cau - emo + 12) * 128 + emo`, the pairs in the order of the first coordinate, and `b * 4096` on the
  padding after them. The printed table is compared with the closed form entry by entry.
-/
module

public import proofs.«01_k».proof.KernelIdeal

@[expose] public section

noncomputable section

namespace Cert.Proof.Band

open Cert.KernelIdeal

/-- The pairs before row `i` of the first coordinate, for `i ≤ 12`: rows `0 …` hold `13, 14, …` of them. -/
def firstOf (i : ℕ) : ℕ := 13 * i + i * (i - 1) / 2
/-- The row of pair `n`, for `n < 222`. -/
def lowRow (n : ℕ) : ℕ := Nat.rec 0 (fun i r => bif Nat.ble (firstOf (i + 1)) n then r + 1 else r) 12
/-- The first coordinate of pair `n` of the 3044: the last 222 mirror the first. -/
def emoOf (n : ℕ) : ℕ :=
  bif Nat.ble 2822 n then 127 - lowRow (3043 - n) else bif Nat.ble 222 n then 12 + (n - 222) / 25 else lowRow n
/-- The second coordinate of pair `n`. -/
def cauOf (n : ℕ) : ℕ :=
  bif Nat.ble 2822 n then 127 - (3043 - n - firstOf (lowRow (3043 - n))) else bif Nat.ble 222 n then (n - 222) / 25 + (n - 222) % 25 else n - firstOf (lowRow n)
/-- How far apart the two coordinates are, from 0 to 24. -/
def relOf (n : ℕ) : ℕ := cauOf n + 12 - emoOf n
/-- The word address within a batch. -/
def selOf (n : ℕ) : ℕ := bif Nat.ble 3044 n then 0 else relOf n * 128 + emoOf n

/-- `f` holds below `n`, to be evaluated. -/
def below (f : ℕ → Bool) (n : ℕ) : Bool := Nat.rec true (fun k ih => f k && ih) n

theorem below_iff (f : ℕ → Bool) (n : ℕ) : below f n = true ↔ ∀ k < n, f k = true := by
  induction n with
  | zero => simp [below]
  | succ n ih =>
    have : below f (n + 1) = (f n && below f n) := rfl
    rw [this, Bool.and_eq_true, ih]
    constructor
    · rintro ⟨h, h'⟩ k hk
      rcases Nat.lt_succ_iff_lt_or_eq.mp hk with hk | rfl
      · exact h' k hk
      · exact h
    · exact fun h => ⟨h n (Nat.lt_succ_self n), fun k hk => h k (Nat.lt_succ_of_lt hk)⟩

/-- The printed entries of batch `b` are the closed form's. -/
def batchOK (b : ℕ) : Bool := below (fun n => Nat.beq (lit1t (b * 3072 + n)).toNat (b * 4096 + selOf n)) 3072

set_option maxRecDepth 100000

theorem batch0 : batchOK 0 = true := by decide +kernel
theorem batch1 : batchOK 1 = true := by decide +kernel
theorem batch2 : batchOK 2 = true := by decide +kernel
theorem batch3 : batchOK 3 = true := by decide +kernel
theorem batch4 : batchOK 4 = true := by decide +kernel
theorem batch5 : batchOK 5 = true := by decide +kernel
theorem batch6 : batchOK 6 = true := by decide +kernel
theorem batch7 : batchOK 7 = true := by decide +kernel
theorem batch8 : batchOK 8 = true := by decide +kernel
theorem batch9 : batchOK 9 = true := by decide +kernel
theorem batch10 : batchOK 10 = true := by decide +kernel
theorem batch11 : batchOK 11 = true := by decide +kernel
theorem batch12 : batchOK 12 = true := by decide +kernel
theorem batch13 : batchOK 13 = true := by decide +kernel
theorem batch14 : batchOK 14 = true := by decide +kernel
theorem batch15 : batchOK 15 = true := by decide +kernel

end Cert.Proof.Band

end
-- ==== Proof.Address.lean ====
/-
  The word addresses, entry by entry: what each is, and that it lies in the table.
-/
module

public import proofs.«01_k».proof.Proof.Words
public import Mathlib.Tactic.IntervalCases

@[expose] public section

noncomputable section

namespace Cert.Proof.Band

open Cert.KernelIdeal

theorem batch (b : ℕ) (hb : b < 16) : batchOK b = true := by
  interval_cases b
  · exact batch0
  · exact batch1
  · exact batch2
  · exact batch3
  · exact batch4
  · exact batch5
  · exact batch6
  · exact batch7
  · exact batch8
  · exact batch9
  · exact batch10
  · exact batch11
  · exact batch12
  · exact batch13
  · exact batch14
  · exact batch15

/-- The address of pair `n` of batch `b`. -/
theorem word_eq (b n : ℕ) (hb : b < 16) (hn : n < 3072) : (lit1t (b * 3072 + n)).toNat = b * 4096 + selOf n := by
  have h := (below_iff _ _).1 (batch b hb) n hn
  exact Nat.eq_of_beq_eq_true h

theorem ble_dec (a b : ℕ) : Nat.ble a b = decide (a ≤ b) := by
  by_cases h : a ≤ b
  · rw [decide_eq_true h]; exact Nat.ble_eq_true_of_le h
  · rw [decide_eq_false h]; exact Bool.eq_false_iff.2 fun e => h (Nat.le_of_ble_eq_true e)

theorem lowRow_le (n : ℕ) : lowRow n ≤ 12 := by
  unfold lowRow
  have h : ∀ k, (Nat.rec 0 (fun i r => bif Nat.ble (firstOf (i + 1)) n then r + 1 else r) k : ℕ) ≤ k := by
    intro k
    induction k with
    | zero => exact le_refl _
    | succ k ih =>
      show (bif Nat.ble (firstOf (k + 1)) n then _ + 1 else _) ≤ k + 1
      cases Nat.ble (firstOf (k + 1)) n
      · exact le_trans ih (Nat.le_succ _)
      · exact Nat.succ_le_succ ih
  exact h 12

theorem emoOf_lt (n : ℕ) (hn : n < 3044) : emoOf n < 128 := by
  unfold emoOf
  rw [ble_dec, ble_dec]
  have h1 := lowRow_le n
  rcases Nat.lt_or_ge n 2822 with h | h
  · rw [decide_eq_false (by omega)]
    rcases Nat.lt_or_ge n 222 with h' | h'
    · rw [decide_eq_false (by omega)]; show lowRow n < 128; omega
    · rw [decide_eq_true h']; show 12 + (n - 222) / 25 < 128; omega
  · rw [decide_eq_true h]; show 127 - _ < 128; omega

/-- The two coordinates are at most twelve apart, and in range. -/
def pairOK (n : ℕ) : Bool := Nat.ble (emoOf n) (cauOf n + 12) && Nat.ble (cauOf n + 12) (emoOf n + 24) && Nat.ble (cauOf n) 127

set_option maxRecDepth 100000 in
theorem pairsOK : below pairOK 3044 = true := by decide +kernel

theorem pair_facts (n : ℕ) (hn : n < 3044) : emoOf n ≤ cauOf n + 12 ∧ cauOf n + 12 ≤ emoOf n + 24 ∧ cauOf n < 128 := by
  have h := (below_iff _ _).1 pairsOK n hn
  unfold pairOK at h
  rw [Bool.and_eq_true, Bool.and_eq_true] at h
  exact ⟨Nat.le_of_ble_eq_true h.1.1, Nat.le_of_ble_eq_true h.1.2, Nat.lt_succ_of_le (Nat.le_of_ble_eq_true h.2)⟩

theorem relOf_lt (n : ℕ) (hn : n < 3044) : relOf n < 25 := by
  have h := pair_facts n hn; unfold relOf; omega

/-- Every address within a batch is on one of the band's 25 rows. -/
theorem selOf_lt (n : ℕ) : selOf n < 3200 := by
  unfold selOf
  rw [ble_dec]
  rcases Nat.lt_or_ge n 3044 with h | h
  · rw [decide_eq_false (by omega)]
    have h1 := emoOf_lt n h; have h2 := relOf_lt n h
    show relOf n * 128 + emoOf n < 3200; omega
  · rw [decide_eq_true h]; show 0 < 3200; omega

theorem lit1_eq (k : Fin 49152) : (lit1 k).toNat = k.val / 3072 * 4096 + selOf (k.val % 3072) := by
  have h := word_eq (k.val / 3072) (k.val % 3072) (by omega) (Nat.mod_lt _ (by decide))
  rw [Nat.div_add_mod'] at h
  exact h

theorem word_lt (k : Fin 49152) : (lit1 k).toNat < 65536 := by
  rw [lit1_eq]; have := selOf_lt (k.val % 3072); omega

end Cert.Proof.Band

end
-- ==== Proof.Host.lean ====
/-
  The program's straight lines of array operations, and what they leave in the buffers the kernels read.
-/
module

public import proofs.«01_k».proof.Proof.RegionVal
public import proofs.«01_k».proof.Proof.Tile
public import proofs.«01_k».proof.Proof.Address

@[expose] public section

set_option maxRecDepth 16384

noncomputable section

namespace Cert.Proof.Band

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.Sem
open Idealize.ShloMosaic.Rounds

variable {F : FTy → Type} [FloatOps F] [Named F]

/-- The operations before the band kernel, -/
def opsA : List (HloOp τ sig (Elt F)) :=
  [
    StableHlo.nullary main_cst (fun i => FloatOps.ofBits .f32 (lit0 (S25.rowMajor i))),
    StableHlo.unary main_cst main_v0 (broadcastInDim S1x25 ![1] bcast_S25_S1x25_1 : (⟨S25, .f32⟩ : BufTy).Contents (Elt F) → (⟨S1x25, .f32⟩ : BufTy).Contents (Elt F)),
    StableHlo.nullary main_c (fun i => lit1 (S49152.rowMajor i)),
    StableHlo.nullary main_c_0 (fun i => lit2 (S3044x2.rowMajor i)),
    StableHlo.nullary main_v1 (sitofp .f32 (iotaInDim S25 32 0)),
    StableHlo.unary main_v1 main_v2 (broadcastInDim S25x1 ![0] bcast_S25_S25x1_0 : (⟨S25, .f32⟩ : BufTy).Contents (Elt F) → (⟨S25x1, .f32⟩ : BufTy).Contents (Elt F)),
    StableHlo.unary main_v1 main_v3 (broadcastInDim S1x25 ![1] bcast_S25_S1x25_1 : (⟨S25, .f32⟩ : BufTy).Contents (Elt F) → (⟨S1x25, .f32⟩ : BufTy).Contents (Elt F)),
    StableHlo.unary main_v2 main_v4 (broadcastInDim S25x25 ![0, 1] bcast_S25x1_S25x25_0_1 : (⟨S25x1, .f32⟩ : BufTy).Contents (Elt F) → (⟨S25x25, .f32⟩ : BufTy).Contents (Elt F)),
    StableHlo.unary main_v3 main_v5 (broadcastInDim S25x25 ![0, 1] bcast_S1x25_S25x25_0_1 : (⟨S1x25, .f32⟩ : BufTy).Contents (Elt F) → (⟨S25x25, .f32⟩ : BufTy).Contents (Elt F)),
    StableHlo.binary main_v4 main_v5 main_v6 (subf : (⟨S25x25, .f32⟩ : BufTy).Contents (Elt F) → (⟨S25x25, .f32⟩ : BufTy).Contents (Elt F) → (⟨S25x25, .f32⟩ : BufTy).Contents (Elt F)),
    StableHlo.binary main_v6 main_v6 main_v7 (mulf : (⟨S25x25, .f32⟩ : BufTy).Contents (Elt F) → (⟨S25x25, .f32⟩ : BufTy).Contents (Elt F) → (⟨S25x25, .f32⟩ : BufTy).Contents (Elt F)),
    StableHlo.unary main_v7 main_v8 (Host.negf : (⟨S25x25, .f32⟩ : BufTy).Contents (Elt F) → (⟨S25x25, .f32⟩ : BufTy).Contents (Elt F)),
    StableHlo.unary main_v8 main_v9 (Host.exp : (⟨S25x25, .f32⟩ : BufTy).Contents (Elt F) → (⟨S25x25, .f32⟩ : BufTy).Contents (Elt F)),
    StableHlo.unary main_v0 main_v10 (broadcastInDim S25x25 ![0, 1] bcast_S1x25_S25x25_0_1 : (⟨S1x25, .f32⟩ : BufTy).Contents (Elt F) → (⟨S25x25, .f32⟩ : BufTy).Contents (Elt F)),
    StableHlo.binary main_v10 main_v9 main_v11 (mulf : (⟨S25x25, .f32⟩ : BufTy).Contents (Elt F) → (⟨S25x25, .f32⟩ : BufTy).Contents (Elt F) → (⟨S25x25, .f32⟩ : BufTy).Contents (Elt F)),
    StableHlo.binary main_arg0 main_arg2 main_v12 (addf : (⟨S16x128x300, .f32⟩ : BufTy).Contents (Elt F) → (⟨S16x128x300, .f32⟩ : BufTy).Contents (Elt F) → (⟨S16x128x300, .f32⟩ : BufTy).Contents (Elt F)),
    StableHlo.binary main_arg1 main_arg2 main_v13 (addf : (⟨S16x128x300, .f32⟩ : BufTy).Contents (Elt F) → (⟨S16x128x300, .f32⟩ : BufTy).Contents (Elt F) → (⟨S16x128x300, .f32⟩ : BufTy).Contents (Elt F)),
    StableHlo.reshape main_arg5 main_v14 (rfl : (.f32 : EltTy) = .f32) shapeCasts_S300_S1x300,
    StableHlo.reshape main_arg6 main_v15 (rfl : (.f32 : EltTy) = .f32) shapeCasts_S300_S1x300,
    StableHlo.reshape main_arg7 main_v16 (rfl : (.f32 : EltTy) = .f32) shapeCasts_S300_S1x300,
    StableHlo.reshape main_arg9 main_v17 (rfl : (.f32 : EltTy) = .f32) shapeCasts_S1_S1x1]
/-- between the two kernels, -/
def opsB : List (HloOp τ sig (Elt F)) :=
  [
    StableHlo.reshape main_v18 main_v19 (rfl : (.f32 : EltTy) = .f32) shapeCasts_S16x32x128_S65536]
/-- and after the gather. -/
def opsC : List (HloOp τ sig (Elt F)) :=
  [
    StableHlo.reshape main_v20 main_v21 (rfl : (.f32 : EltTy) = .f32) shapeCasts_S49152_S16x3072,
    StableHlo.unary main_v21 main_v22 ((extractStridedSlice S16x3044 ![0, 0] · slices_S16x3072_S16x3044_0_0) : (⟨S16x3072, .f32⟩ : BufTy).Contents (Elt F) → (⟨S16x3044, .f32⟩ : BufTy).Contents (Elt F))]

/-- The program is the three lines around the two kernels. -/
theorem main_eq (d : Dev nD) : main (F := F) d = (StableHlo.seq opsA >>= fun _ => Prog.lift (.customCall (SparseCore.inner (Pipeline.entry 0)) ()) >>= fun _ =>
    StableHlo.seq opsB >>= fun _ => (sc (F := F)).run d 0 >>= fun _ => StableHlo.seq opsC) := by
  unfold main opsA opsB opsC
  simp only [StableHlo.seq, bind_assoc, pure_bind]

variable (m : (ℓ : Loc nD τ sig) → Buf (Elt F) ℓ)

/-- The buffers at the launch, -/
def W0 (d : Dev nD) : Valuation τ sig (Elt F) := fun b => m (d, b)
/-- when the band kernel starts, -/
def W1 (d : Dev nD) : Valuation τ sig (Elt F) := StableHlo.after opsA (W0 m d)
/-- and as the region sees them. -/
def V1 (d : Dev nD) (b : Ref sig .tc) : Buf (Elt F) ((d : Thread nD τ).loc b) := W1 m d (Proc.devRef .tc b)

/-- Row `dd`, lane `e` of batch `b` of the table, of the launch's contents. -/
def tbl (d : Dev nD) (b : Fin 16) (dd : Fin 25) (e : Fin 128) : F .f32 :=
  bandAt (F := F) (V1 m d main_v11) (V1 m d main_v12) (V1 m d main_v13) (V1 m d main_arg3) (V1 m d main_arg4) (V1 m d main_v14) (V1 m d main_v15) (V1 m d main_v16) (V1 m d main_arg8) (V1 m d main_v17) b dd e

/-- The flat table holds the band at every row that is stored. -/
def Good (d : Dev nD) (f : Buf (Elt F) (tLoc d)) : Prop :=
  ∀ (b : Fin 16) (dd : Fin 25) (e : Fin 128) (p : S65536.Idx), (p 0).val = b.val * 4096 + dd.val * 128 + e.val → f p = tbl m d b dd e

/-- The addresses. -/
def addr : S49152.Idx → BitVec 32 := fun i => lit1 (S49152.rowMajor i)

theorem addr_lt (j : S49152.Idx) : (addr j).toNat < 65536 := word_lt _

theorem addr_eq (j : S49152.Idx) : (addr j).toNat = (j 0).val / 3072 * 4096 + selOf ((j 0).val % 3072) := by
  have h : (S49152.rowMajor j).val = (j 0).val := Shape.rowMajor_val_one _
  have e := lit1_eq (S49152.rowMajor j)
  rw [h] at e
  exact e

theorem j_lt (j : S49152.Idx) : (j 0).val < 49152 := (j 0).isLt

/-- What the gather leaves. -/
def outV (d : Dev nD) : Buf (Elt F) (oLoc d) := fun j : S49152.Idx =>
  tbl m d ⟨(j 0).val / 3072, by have := j_lt j; omega⟩ ⟨selOf ((j 0).val % 3072) / 128, by have := selOf_lt ((j 0).val % 3072); omega⟩ ⟨selOf ((j 0).val % 3072) % 128, Nat.mod_lt _ (by omega)⟩

theorem outV_eq (d : Dev nD) (f : Buf (Elt F) (tLoc d)) (hf : Good m d f) (j : S49152.Idx) : outV m d j = f (placeOf addr addr_lt j) := by
  refine (hf _ _ _ _ ?_).symm
  show (addr j).toNat = _
  rw [addr_eq]
  show _ = (j 0).val / 3072 * 4096 + selOf ((j 0).val % 3072) / 128 * 128 + selOf ((j 0).val % 3072) % 128
  omega

/-- With the table's array at `G`, -/
def W2 (d : Dev nD) (G : Buf (Elt F) ((d : Thread nD τ).loc main_v18)) : Valuation τ sig (Elt F) := Function.update (W1 m d) (Proc.devRef .tc main_v18) G
/-- the flat table written, -/
def W3 (d : Dev nD) (G : Buf (Elt F) ((d : Thread nD τ).loc main_v18)) : Valuation τ sig (Elt F) := StableHlo.after opsB (W2 m d G)
/-- the gather done, -/
def W4 (d : Dev nD) (G : Buf (Elt F) ((d : Thread nD τ).loc main_v18)) : Valuation τ sig (Elt F) := Function.update (W3 m d G) (Proc.devRef .tc main_v20) (outV m d)
/-- and at the end. -/
def W5 (d : Dev nD) (G : Buf (Elt F) ((d : Thread nD τ).loc main_v18)) : Valuation τ sig (Elt F) := StableHlo.after opsC (W4 m d G)

/-- What the lines write. -/
abbrev wrA : List (Ref sig .tc) := [main_cst, main_v0, main_c, main_c_0, main_v1, main_v2, main_v3, main_v4, main_v5, main_v6, main_v7, main_v8, main_v9, main_v10, main_v11, main_v12, main_v13, main_v14, main_v15, main_v16, main_v17]
abbrev wrC : List (Ref sig .tc) := [main_v21, main_v22]

theorem writesA : (opsA (F := F)).map HloOp.writes = wrA.map fun r => {Proc.devRef (τ := τ) .tc r} := rfl
theorem freshA : (opsA (F := F)).map HloOp.fresh = (opsA (F := F)).map fun _ => (∅ : Finset (DevRef τ sig)) := rfl
theorem writesB : (opsB (F := F)).map HloOp.writes = [main_v19].map fun r => {Proc.devRef (τ := τ) .tc r} := rfl
theorem freshB : (opsB (F := F)).map HloOp.fresh = (opsB (F := F)).map fun _ => (∅ : Finset (DevRef τ sig)) := rfl
theorem writesC : (opsC (F := F)).map HloOp.writes = wrC.map fun r => {Proc.devRef (τ := τ) .tc r} := rfl
theorem freshC : (opsC (F := F)).map HloOp.fresh = (opsC (F := F)).map fun _ => (∅ : Finset (DevRef τ sig)) := rfl

theorem W1_of (d : Dev nD) (r : Ref sig .tc) (h : r ∉ wrA) : W1 m d (Proc.devRef .tc r) = W0 m d (Proc.devRef .tc r) :=
  StableHlo.after_of_writes_sub _ _ (StableHlo.forall_writes_sub_of_map writesA) h

theorem W3_of (d : Dev nD) (G) (r : Ref sig .tc) (h : r ∉ [main_v18, main_v19]) : W3 m d G (Proc.devRef .tc r) = W1 m d (Proc.devRef .tc r) :=
  (StableHlo.after_of_writes_sub _ _ (StableHlo.forall_writes_sub_of_map writesB) (fun h' => h (List.mem_cons_of_mem _ h'))).trans
    (Function.update_of_ne (StableHlo.devRef_ne_of_ne fun e => h (by rw [e]; decide)) _ _)

theorem W5_of (d : Dev nD) (G) (r : Ref sig .tc) (h : r ∉ [main_v18, main_v19, main_v20, main_v21, main_v22]) : W5 m d G (Proc.devRef .tc r) = W1 m d (Proc.devRef .tc r) :=
  (StableHlo.after_of_writes_sub _ _ (StableHlo.forall_writes_sub_of_map writesC) (fun h' => h (by simp only [List.mem_cons] at h' ⊢; tauto))).trans
    ((Function.update_of_ne (StableHlo.devRef_ne_of_ne fun e => h (by rw [e]; decide)) _ _).trans (W3_of m d G r (fun h' => h (by simp only [List.mem_cons, List.not_mem_nil] at h' ⊢; tauto))))

/-- The addresses as the gather finds them. -/
theorem W3_c (d : Dev nD) (G) : W3 m d G (Proc.devRef .tc main_c) = wordsC F addr d := by
  rw [W3_of m d G main_c (by decide)]
  unfold W1 opsA
  simp only [StableHlo.after_cons, StableHlo.after_nil]
  repeat' (first
    | rw [StableHlo.nullary_result_ne' _ _ _ (by decide)]
    | rw [StableHlo.unary_result_ne' _ _ _ _ (by decide)]
    | rw [StableHlo.binary_result_ne' _ _ _ _ _ (by decide)]
    | rw [StableHlo.reshape_result_ne' _ _ _ _ _ (by decide)])
  rw [StableHlo.nullary_result']
  rfl

/-- The flat table as the gather finds it. -/
theorem good_of (d : Dev nD) (G : Buf (Elt F) ((d : Thread nD τ).loc main_v18)) (h : ((dat (V1 m) d).toRRel fgt (Rl (V1 m) d)).ArrAt 10 cfg0.N G) :
    Good m d (W3 m d G (Proc.devRef .tc main_v19)) := by
  intro b dd e p hp
  have hW : W3 m d G (Proc.devRef .tc main_v19) = shapeCast S65536 G shapeCasts_S16x32x128_S65536 := by
    unfold W3 opsB
    rw [StableHlo.after_cons, StableHlo.after_nil, StableHlo.reshape_result']
    show (fun i => shapeCast S65536 (W2 m d G (Proc.devRef .tc main_v18)) _ i) = _
    unfold W2
    rw [Function.update_self]
  rw [hW]
  have hi : shapeCast S65536 G shapeCasts_S16x32x128_S65536 p = G (ix3 b (⟨dd.val, by omega⟩ : Fin 32) e) := by
    show G _ = G _
    congr 1
    refine Shape.reshapeEquiv_eq_of_rowMajor _ ?_
    have h1 : (S16x32x128.rowMajor (ix3 b (⟨dd.val, by omega⟩ : Fin 32) e)).val = (b.val * 32 + dd.val) * 128 + e.val := Shape.rowMajor_val_three _
    have h2 : (S65536.rowMajor p).val = (p 0).val := Shape.rowMajor_val_one _
    refine h1.trans (Eq.trans ?_ h2.symm)
    rw [hp]
    omega
  rw [hi]
  exact table_of (V1 m) d G h _ dd.isLt

end Cert.Proof.Band

end
-- ==== Proof.Main.lean ====
/-
  The program's run: the launch element of the ghost state, the program on the TensorCore, and what every execution leaves.
-/
module

public import proofs.«01_k».proof.Proof.Host

@[expose] public section

set_option maxRecDepth 16384

noncomputable section

namespace Cert.Proof.Band

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element -/

variable (F) in
/-- The pipeline's table, pinned. -/
abbrev pn : (p : Fin 1) → Pipeline.Cfg sig Λ₀ := Pipeline.pin (pcfgs (F := F)) adm

variable (F) in
theorem pn_inj : Function.Injective (Pipeline.cellOf (nD := nD) (τ := τ) (pn F)) := cellOf_inj

/-- What the handshakes and the pipeline start from. -/
def u₀ : UU := (initOf (K (F := F)).hsCells (K (F := F)).hsToks,
  (initOf (Pipeline.cells (pn F) (pn_inj F)) (Pipeline.launchToks (pn F) (pn_inj F)), 1))

/-- What the pipeline's region starts from on a device. -/
abbrev G₀ (d : Dev nD) : sProp 𝕄 := iprop(Pipeline.cellsGhost (pn F) EP 0 d ∗ Pipeline.toksInit (pn F) EP 0 d)

/-- The protocol. -/
abbrev P₀ : (K (F := F)).Pay (nD := nD) (Val := Elt F) (Name := ℕ) (U := UU) := P addr m (Good m) (outV m)

theorem x_emp : (bigSep Finset.univ fun thr : Thread nD τ => bigSep Finset.univ fun q : Fin 1 => (P₀ m).x q thr) = (iprop(emp) : sProp 𝕄) := by
  show (bigSep Finset.univ fun thr : Thread nD τ => bigSep Finset.univ fun q : Fin 1 => (iprop(emp) : sProp 𝕄)) = _
  rw [show (fun _ : Thread nD τ => bigSep (Finset.univ : Finset (Fin 1)) fun _ => (iprop(emp) : sProp 𝕄)) = fun _ => iprop(emp) from funext fun _ => bigSep_emp_const _]
  exact bigSep_emp_const _

theorem ghosts : (BI.own (EP (initOf (Pipeline.cells (pn F) (pn_inj F)) (Pipeline.launchToks (pn F) (pn_inj F)))) : sProp 𝕄)
    ⊢ iprop(|==> bigSep Finset.univ fun d : Dev nD => G₀ (F := F) d) := by
  have h1 : (bigSep Finset.univ fun c : Dev nD => bigSep Finset.univ fun p : Fin 1 => (Pipeline.cellsGhost (pn F) EP p c : sProp 𝕄))
      = bigSep Finset.univ fun c : Dev nD => Pipeline.cellsGhost (pn F) EP 0 c :=
    bigSep_congr fun c _ => bigSep_univ_of_subsingleton (0 : Fin 1)
  have h2 : (bigSep Finset.univ fun c : Dev nD => bigSep Finset.univ fun p : Fin 1 => (Pipeline.toksInit (pn F) EP p c : sProp 𝕄))
      = bigSep Finset.univ fun c : Dev nD => Pipeline.toksInit (pn F) EP 0 c :=
    bigSep_congr fun c _ => bigSep_univ_of_subsingleton (0 : Fin 1)
  have h := Pipeline.fund_ghost (Ix := HIx 1) (Val := Elt F) (Name := ℕ) (U := UU) (Lvl := ℕ) (pn F) EP (pn_inj F)
  rw [h1, h2] at h
  refine h.trans ?_
  rw [← bigSep_sep']

theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P₀ m).x q thr) := by
  rw [x_emp]
  unfold u₀
  iintro Hu
  ihave H := (ownU_pair _ _) $$ Hu
  icases H with ⟨HH, HK⟩
  ihave H := (own_pair_emb embR _ _) $$ HK
  icases H with ⟨HP, -⟩
  imod (ghosts (F := F)) $$ [HP] with HG
  · unfold EP; iexact HP
  imodintro
  isplitl [HH]; · iexact HH
  isplitl [HG]; · iexact HG
  iempintro

/-! ## The buffers -/

abbrev tR : DevRef τ sig := Proc.devRef .tc (main_v19 : Ref sig .tc)
abbrev iR : DevRef τ sig := Proc.devRef .tc (main_c : Ref sig .tc)
abbrev oR : DevRef τ sig := Proc.devRef .tc (main_v20 : Ref sig .tc)

/-- The TensorCore's arrays, -/
abbrev SA : Finset (DevRef τ sig) := Pipeline.ucRefs τ sig
/-- those the gather does not keep. -/
abbrev SB : Finset (DevRef τ sig) := (SA.erase tR).erase iR

theorem mem_SA (r : Ref sig .tc) (h : (r : DevRef τ sig).isScoped = false) : Proc.devRef (τ := τ) .tc r ∈ SA :=
  Finset.mem_filter.mpr ⟨StableHlo.devRef_mem_tcRefs r, by rw [h]; exact Bool.false_ne_true⟩

theorem mem_SB (r : Ref sig .tc) (h : (r : DevRef τ sig).isScoped = false) (h1 : r ≠ main_v19) (h2 : r ≠ main_c) : Proc.devRef (τ := τ) .tc r ∈ SB :=
  Finset.mem_erase.mpr ⟨StableHlo.devRef_ne_of_ne h2, Finset.mem_erase.mpr ⟨StableHlo.devRef_ne_of_ne h1, mem_SA r h⟩⟩

theorem held_SB (d : Dev nD) (W : Valuation τ sig (Elt F)) :
    (held (SparseCore.T d) SB W : sProp 𝕄) = iprop((oLoc d ↦{fullShare} W oR) ∗ held (SparseCore.T d) (SB.erase oR) W) := by
  unfold held
  exact SparseCore.bigSep_erase' (mem_SB main_v20 rfl (by decide) (by decide))

theorem held_SA (d : Dev nD) (W : Valuation τ sig (Elt F)) :
    (held (SparseCore.T d) SA W : sProp 𝕄) = iprop((tLoc d ↦{fullShare} W tR) ∗ (iLoc d ↦{fullShare} W iR) ∗ held (SparseCore.T d) SB W) := by
  have h1 : (held (SparseCore.T d) SA W : sProp 𝕄) = iprop((tLoc d ↦{fullShare} W tR) ∗ held (SparseCore.T d) (SA.erase tR) W) := by
    unfold held
    exact SparseCore.bigSep_erase' (mem_SA main_v19 rfl)
  have h2 : (held (SparseCore.T d) (SA.erase tR) W : sProp 𝕄) = iprop((iLoc d ↦{fullShare} W iR) ∗ held (SparseCore.T d) SB W) := by
    unfold held
    exact SparseCore.bigSep_erase' (Finset.mem_erase.mpr ⟨StableHlo.devRef_ne_of_ne (by decide), mem_SA main_c rfl⟩)
  rw [h1, h2]

theorem hsA : ∀ op ∈ opsA (F := F), op.bufs ⊆ SA := by
  have h : (opsA (F := F)).Forall fun op => op.bufs ⊆ StableHlo.tcRefs τ sig := by
    unfold opsA
    simp only [List.forall_cons, StableHlo.nullary_bufs_sub, StableHlo.unary_bufs_sub, StableHlo.binary_bufs_sub, StableHlo.reshape_bufs_sub, List.Forall, and_self]
  exact fun op ho => Pipeline.sub_ucRefs op (List.forall_iff_forall_mem.mp h op ho)
theorem hfA : ∀ op ∈ opsA (F := F), op.fresh = ∅ := List.forall_iff_forall_mem.mp (StableHlo.forall_fresh_of_map freshA)
theorem hsB : ∀ op ∈ opsB (F := F), op.bufs ⊆ SA := by
  have h : (opsB (F := F)).Forall fun op => op.bufs ⊆ StableHlo.tcRefs τ sig := by
    unfold opsB
    simp only [List.forall_cons, StableHlo.nullary_bufs_sub, StableHlo.unary_bufs_sub, StableHlo.binary_bufs_sub, StableHlo.reshape_bufs_sub, List.Forall, and_self]
  exact fun op ho => Pipeline.sub_ucRefs op (List.forall_iff_forall_mem.mp h op ho)
theorem hfB : ∀ op ∈ opsB (F := F), op.fresh = ∅ := List.forall_iff_forall_mem.mp (StableHlo.forall_fresh_of_map freshB)
theorem hsC : ∀ op ∈ opsC (F := F), op.bufs ⊆ SB := by
  have h0 := mem_SB main_v20 rfl (by decide) (by decide)
  have h1 := mem_SB main_v21 rfl (by decide) (by decide)
  have h2 := mem_SB main_v22 rfl (by decide) (by decide)
  refine List.forall_iff_forall_mem.mp ⟨?_, ?_⟩
  · show (StableHlo.reshape _ _ _ _ _ _ : HloOp τ sig (Elt F)).bufs ⊆ SB
    rw [StableHlo.reshape_bufs]
    exact Finset.insert_subset h0 (Finset.singleton_subset_iff.mpr h1)
  · show (StableHlo.unary _ _ _ _ _ : HloOp τ sig (Elt F)).bufs ⊆ SB
    rw [StableHlo.unary_bufs]
    exact Finset.insert_subset h1 (Finset.singleton_subset_iff.mpr h2)
theorem hfC : ∀ op ∈ opsC (F := F), op.fresh = ∅ := List.forall_iff_forall_mem.mp (StableHlo.forall_fresh_of_map freshC)

/-- What the program leaves on a device. -/
abbrev FIN (d : Dev nD) : sProp 𝕄 :=
  iprop(∃ G : Buf (Elt F) ((d : Thread nD τ).loc main_v18), ⌜((dat (V1 m) d).toRRel fgt (Rl (V1 m) d)).ArrAt 10 cfg0.N G⌝ ∗ held (SparseCore.T d) SB (W5 m d G))

set_option backward.isDefEq.respectTransparency.types false in
set_option maxHeartbeats 1000000 in
/-- The band kernel's region, from the program. -/
theorem region_wp [∀ e, Nonempty (Elt F e)] (d : Dev nD) (Φ : PUnit → sProp 𝕄) :
    iprop((iprop(boundary (SparseCore.T d) ∗ (reg (V1 m)).post d) -∗ Φ ⟨⟩)
        ∗ boundary (SparseCore.T d) ∗ (reg (V1 m)).pre d ∗ levAts (K (F := F)).L (K (F := F)).lev ∗ G₀ (F := F) d)
      ⊢ wp frame (wpE ((K (F := F)).defs (D (F := F))) 𝒱 (SparseCore.T d) none) Set.univ
          (Prog.lift (.customCall (SparseCore.inner (Pipeline.entry 0)) ())) Φ := by
  have h2 := Pipeline.RDat.RegionSeg.wp (pcfgs (F := F)) adm (rdats (V1 m)) none (pn_inj F) EP defs₀ 𝒱₀ (K (F := F)).L (K (F := F)).lev (reg (V1 m)) d none (fun _ h => nomatch h) (fun _ => .ret PUnit.unit) Φ
  have h1 := (K (F := F)).wp_liftProg (D (F := F)) 𝒱 (SparseCore.T d) Set.univ none (.op (.customCall (Pipeline.entry 0) ()) fun _ => .ret PUnit.unit) Φ
  iintro ⟨Hk, Hb, Hp, HL, Hg, Ht⟩
  iapply h1
  iapply h2
  isplitl [Hk]
  · iintro H
    rw [wp_ret]; imodintro
    iapply Hk; iexact H
  isplitl [Hb]; · iexact Hb
  isplitl [Hp]; · iexact Hp
  isplitl [HL]; · iexact HL
  isplitl [Hg]; · iexact Hg
  iexact Ht

theorem pre_eq (d : Dev nD) : (reg (V1 m)).pre d = iprop(held (SparseCore.T d) SA (W1 m d) ∗ ∃ W, ⌜(K (F := F)).WBelow (SparseCore.T d) W 0⌝ ∗ owes (d : Thread nD τ) ((K (F := F)).Otc d 0) W) := by
  rw [← Pipeline.unscopedBufs_held]
  rfl

theorem upd_eq (d : Dev nD) (G : Buf (Elt F) ((d : Thread nD τ).loc main_v18)) (b : Ref sig .tc) : upd (V1 m) d G b = W2 m d G (Proc.devRef .tc b) := by
  unfold upd W2
  by_cases h : b = main_v18
  · subst h; rw [Function.update_self, Function.update_self]
  · rw [Function.update_of_ne h, Function.update_of_ne (StableHlo.devRef_ne_of_ne h)]; rfl

theorem post_eq (d : Dev nD) : (reg (V1 m)).post d = iprop((∃ G : Buf (Elt F) ((d : Thread nD τ).loc main_v18), ⌜((dat (V1 m) d).toRRel fgt (Rl (V1 m) d)).ArrAt 10 cfg0.N G⌝ ∗ held (SparseCore.T d) SA (W2 m d G))
    ∗ ∃ W, ⌜(K (F := F)).WBelow (SparseCore.T d) W 0⌝ ∗ owes (d : Thread nD τ) ((K (F := F)).Otc d 0) W) := by
  have h : ∀ G : Buf (Elt F) ((d : Thread nD τ).loc main_v18), (held (SparseCore.T d) SA (W2 m d G) : sProp 𝕄) = unscopedBufs d (upd (V1 m) d G) := fun G => by
    rw [← Pipeline.unscopedBufs_held]
    unfold unscopedBufs
    exact bigSep_congr fun b _ => by rw [upd_eq]
  simp only [h]
  rfl

set_option backward.isDefEq.respectTransparency.types false in
set_option maxHeartbeats 1000000 in
/-- The program on a device's TensorCore. -/
theorem hmain [∀ e, Nonempty (Elt F e)] (κ : GSem nD τ sig → ℕ) (d : Dev nD) :
    iprop((K (F := F)).ctx EH (P₀ m) κ ∗ (K (F := F)).tcSt EH d 0 ∗ (K (F := F)).tcRes m ρ d ∗ G₀ (F := F) d)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  have hunsc : (unscopedBufs d (fun b => m ((SparseCore.T d).loc b)) : sProp 𝕄) = held (SparseCore.T d) SA (W0 m d) := by
    rw [← Pipeline.unscopedBufs_held]; rfl
  unfold SparseCore.Cfg.tcRes SparseCore.Cfg.tcEnd
  rw [hunsc, main_eq]
  iintro ⟨#Hctx, Hst, ⟨Hb, Hheld, Hts, -⟩, HG⟩
  ihave Hlev := (SparseCore.Cfg.ctx_levAts (K := K (F := F)) (EH := EH) (P := P₀ m) κ (lv := (K (F := F)).lev)) $$ Hctx
  iapply (StableHlo.wp_seq 𝒱 none Set.univ d SA _ opsA hsA hfA (W0 m d)) $$ [Hb Hheld]
  · isplitl [Hb] <;> iassumption
  iintro ⟨Hb, Hheld⟩
  rw [wp_bind]
  unfold SparseCore.Cfg.tcSt
  icases Hst with ⟨HO, Hst⟩
  iapply (region_wp m d _)
  isplitl [Hts Hst]
  swap
  · isplitl [Hb]; · iexact Hb
    isplitl [HO Hheld]
    · rw [pre_eq]
      isplitl [Hheld]; · iexact Hheld
      iexact HO
    isplitr; · iexact Hlev
    iexact HG
  rw [post_eq]
  iintro ⟨Hb, ⟨%G, %hG, Hheld⟩, HO⟩
  iapply (StableHlo.wp_seq 𝒱 none Set.univ d SA _ opsB hsB hfB (W2 m d G)) $$ [Hb Hheld]
  · isplitl [Hb] <;> iassumption
  iintro ⟨Hb, Hheld⟩
  rw [wp_bind]
  have hW3 : (held (SparseCore.T d) SA (W3 m d G) : sProp 𝕄) = iprop((tLoc d ↦{fullShare} W3 m d G tR) ∗ (iLoc d ↦{fullShare} wordsC F addr d) ∗ (oLoc d ↦{fullShare} m (oLoc d)) ∗ held (SparseCore.T d) (SB.erase oR) (W3 m d G)) := by
    rw [held_SA, held_SB, W3_c, W3_of m d G main_v20 (by decide), W1_of m d main_v20 (by decide)]
    rfl
  ihave Hh := (show (held (SparseCore.T d) SA (StableHlo.after opsB (W2 m d G)) : sProp 𝕄) ⊢ _ from Entails.of_eq hW3) $$ Hheld
  icases Hh with ⟨Ht, Hi, Ho, Hheld⟩
  iapply ((K (F := F)).wp_run (D (F := F)) 𝒱 (EH := EH) (P := P₀ m) κ d 0)
  isplitr; · iexact Hctx
  isplitl [Hst HO]
  · unfold SparseCore.Cfg.tcSt
    isplitl [HO]; · iexact HO
    iexact Hst
  isplitl [Ht Hi Ho]
  · iapply (st_of addr m (Good m) (outV m) d _ (good_of m d G hG))
    isplitl [Ht]; · iexact Ht
    isplitl [Hi]; · iexact Hi
    iexact Ho
  iintro ⟨Hst, Hdn⟩
  ihave Ho := (Entails.of_eq (of_dn addr m (Good m) (outV m) d)) $$ Hdn
  have hW4 : (held (SparseCore.T d) SB (W4 m d G) : sProp 𝕄) = iprop((oLoc d ↦{fullShare} outV m d) ∗ held (SparseCore.T d) (SB.erase oR) (W3 m d G)) := by
    rw [held_SB, show W4 m d G oR = outV m d from Function.update_self _ _ _]
    refine congrArg (fun X => iprop((oLoc d ↦{fullShare} outV m d) ∗ X)) ?_
    exact StableHlo.held_congr _ fun b hb => Function.update_of_ne (Finset.ne_of_mem_erase hb) _ _
  iapply (StableHlo.wp_seq 𝒱 none Set.univ d SB (fun _ => .ret PUnit.unit) opsC hsC hfC (W4 m d G)) $$ [Hb Hheld Ho]
  · isplitl [Hb]; · iexact Hb
    rw [hW4]
    isplitl [Ho]; · iexact Ho
    iexact Hheld
  iintro ⟨Hb, Hheld⟩
  rw [wp_ret]; imodintro
  isplitl [Hst]
  · unfold SparseCore.Cfg.tcSt; iexact Hst
  isplitl [Hheld]
  · iexists G; isplitr
    · ipureintro; exact hG
    · iexact Hheld
  isplitl [Hb] <;> iassumption

/-- What the claims read of a device's final state. -/
def fq (d : Dev nD) (s' : Phys nD τ sig (Elt F)) : Prop :=
  ∃ G : Buf (Elt F) ((d : Thread nD τ).loc main_v18), ∀ b ∈ SB, s'.mem.mem (d, b) = W5 m d G b

theorem hfin (d : Dev nD) (s' : Phys nD τ sig (Elt F)) : iprop(FIN m d ∗ SI s') ⊢ (⌜fq m d s'⌝ : sProp 𝕄) := by
  iintro ⟨⟨%G, %hG, Hheld⟩, HSI⟩
  unfold held
  ihave %h := (SI_pointsTo_bufs_agree (st := s') (c := d) (qs := fun _ => fullShare) (F := W5 m d G) SB) $$ [HSI Hheld]
  · isplitl [HSI] <;> iassumption
  ipureintro; exact ⟨G, h⟩

/-- What every execution ends in. -/
def QC : PUnit × MemSt nD τ sig (Elt F) → Prop := fun r =>
  (∀ d : Dev nD, ∃ G : Buf (Elt F) ((d : Thread nD τ).loc main_v18), ∀ b ∈ SB, r.2.mem (d, b) = W5 m d G b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P₀ m) (A := ∅) facts v₀
    (fun q hq => match q with | 0 => nomatch hq)
    (fun q _ => match q with | 0 => tileObl addr addr_lt m (Good m) (outV m) facts (fun d f hf j => outV_eq m d f hf j))
    (fun q _ => match q with | 0 => SparseCore.Cfg.VecSplit.of_plain (vecSplit addr m (Good m) (outV m)))
    m ρ main (fun d => G₀ (F := F) d) (FIN m) (u₀ (F := F)) (sep_elim_left.trans (hu₀ m)) (hmain m ρ) (fq m) (hfin m) (QC m) (fun _ h hz => ⟨h, hz⟩)

end Cert.Proof.Band

end
-- ==== Proof.Frames.lean ====
/-
  The frames of the two kernels and what the named constant keeps.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof.Band

open Idealize.ShloMosaic Idealize.ShloMosaic.TcCoe Idealize.SL.Sem

section
open Cert.KernelIdeal Cert.KernelIdeal.Gen
variable {F : FTy → Type} [FloatOps F] [Named F]

/-- Every execution ends with the arguments as they were and every counter at zero. -/
theorem run_frame [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run _ _ _).mono (fun r h => ⟨fun c => ?_, h.2⟩) (run_main m ρ)
  obtain ⟨G, hG⟩ := h.1 c
  have key : ∀ b : Ref sig .tc, (b : DevRef τ sig).isScoped = false → b ∉ wrA → b ∉ [main_v18, main_v19, main_v20, main_v21, main_v22] → b ≠ main_v19 → b ≠ main_c →
      r.2.mem ((c.tc : Thread nD τ).loc b) = m ((c.tc : Thread nD τ).loc b) := fun b h1 h2 h3 h4 h5 =>
    (hG _ (mem_SB b h1 h4 h5)).trans ((W5_of m c G b h3).trans (W1_of m c b h2))
  exact ⟨key _ rfl (by decide) (by decide) (by decide) (by decide), key _ rfl (by decide) (by decide) (by decide) (by decide), key _ rfl (by decide) (by decide) (by decide) (by decide),
    key _ rfl (by decide) (by decide) (by decide) (by decide), key _ rfl (by decide) (by decide) (by decide) (by decide), key _ rfl (by decide) (by decide) (by decide) (by decide),
    key _ rfl (by decide) (by decide) (by decide) (by decide), key _ rfl (by decide) (by decide) (by decide) (by decide), key _ rfl (by decide) (by decide) (by decide) (by decide),
    key _ rfl (by decide) (by decide) (by decide) (by decide)⟩
end

theorem frame_KernelIdeal : Cert.quiescent_KernelIdeal := fun m ρ _ => run_frame (F := Ideal) m ρ

/-- On words, a named constant is the word it names. -/
local instance namedWords : Named Bits where
  named _ _ φ bits := FloatOps.ofBits (F := Bits) φ bits

section
open Cert.KernelIdeal.Gen

theorem lit1_same : @Cert.Kernel.lit1 = @Cert.KernelIdeal.lit1 := rfl

theorem lit2_same : @Cert.Kernel.lit2 = @Cert.KernelIdeal.lit2 := rfl

set_option maxHeartbeats 4000000 in
/-- At words the two programs have the same bodies. -/
theorem defs₀_same : Cert.Kernel.defs₀ (F := Bits) = Cert.KernelIdeal.defs₀ (F := Bits) := by
  funext p l a
  match p, l with
  | .tc, 0 => rfl
  | .tc, 1 => rfl
  | .scScalar _, 0 => rfl
  | .scScalar _, 1 => rfl
  | .scVector _ _, 0 => rfl
  | .scVector _ _, 1 => rfl

/-- Two sequences agree when their first parts and what follows do. -/
theorem bind_same {M : Type → Type 1} [Monad M] {α β : Type} {x y : M α} {f g : α → M β} (h : x = y)
    (k : ∀ a, f a = g a) : (x >>= f) = (y >>= g) := by
  subst h; exact congrArg (bind x) (funext k)

set_option maxHeartbeats 4000000 in
/-- At words the two programs run the same operations. -/
theorem main_same : Cert.Kernel.main (F := Bits) = Cert.KernelIdeal.main (F := Bits) := by
  funext d
  unfold Cert.Kernel.main Cert.KernelIdeal.main
  rw [lit1_same, lit2_same]
  repeat (refine bind_same rfl (fun _ => ?_))
  rfl

theorem defs_same : Cert.Kernel.defs (F := Bits) = Cert.KernelIdeal.defs (F := Bits) :=
  congrArg (fun D => Cert.KernelIdeal.sc.defs (Pipeline.defs Cert.KernelIdeal.pcfgs D)) defs₀_same

theorem threads_same : Cert.Kernel.threads (F := Bits) = Cert.KernelIdeal.threads (F := Bits) :=
  congrArg (fun M => Cert.KernelIdeal.sc.threads M) main_same
end

theorem frame_Kernel : Cert.quiescent_Kernel := fun m ρ _ => by
  have h := run_frame (F := Bits) m ρ
  rw [← defs_same, ← threads_same] at h
  exact h

theorem frame_ReferenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "inv_h" .f32 0x3B5A740E#32 ((1 / 300 : ℝ) : EReal) rfl

end Cert.Proof.Band

end
-- ==== Proof.Score.lean ====
/-
  The score of one row over the reals, and the kernel's row at exact arithmetic: the kernel's variance, the mean of the
  squares less the square of the mean, is the mean square of the differences.
-/
module

public import proofs.«01_k».proof.Proof.BandVal
public import Idealize.ShloMosaic.Lib.Pointwise
public import Idealize.ShloMosaic.PureOps.Ideal.Laws
public import Idealize.ShloMosaic.Lib.IdealHost
public import Mathlib.Tactic.Ring
public import Mathlib.Tactic.NormNum
public import Mathlib.Tactic.Positivity
public import Mathlib.Tactic.Linarith
public import Mathlib.Tactic.FieldSimp

@[expose] public section

noncomputable section

namespace Cert.Proof.Band

open Cert.KernelIdeal Cert.KernelIdeal.Gen
open Idealize.ShloMosaic

/-- The word added to the variance, as a real. -/
def eps : ℝ := 10995116 / 2 ^ 40

theorem eps_pos : 0 < eps := by unfold eps; positivity

theorem eps_word : Ideal.ofBits .f32 0x3727C5AC#32 = (eps : EReal) := by
  unfold eps
  simp [Ideal.ofBits, Ideal.ieee]
  rw [← EReal.coe_mul]
  norm_num

/-- The unit's activation. -/
def eluR (x : EReal) : EReal := if 0 < x then x else Ideal.exp x - 1

/-- The mean of a row. -/
def meanR (v : Fin 300 → ℝ) : ℝ := (∑ k, v k) / 300

/-- The mean square of a row's differences from its mean. -/
def varR (v : Fin 300 → ℝ) : ℝ := (∑ k, (v k - meanR v) * (v k - meanR v)) / 300

/-- An entry of a row, normalised. -/
def normR (v : Fin 300 → ℝ) (k : Fin 300) : ℝ := (v k - meanR v) * (Real.sqrt (varR v + eps))⁻¹

/-- A row, normalised, scaled, passed through the activation and weighed. -/
def scoreR (g b w : Fin 300 → EReal) (br : EReal) (v : Fin 300 → ℝ) : EReal :=
  (∑ k, w k * eluR ((normR v k : EReal) * g k + b k)) + br

theorem varR_nonneg (v : Fin 300 → ℝ) : 0 ≤ varR v := by
  unfold varR
  exact div_nonneg (Finset.sum_nonneg fun k _ => mul_self_nonneg _) (by norm_num)

/-- The mean of the squares less the square of the mean. -/
theorem varR_eq (v : Fin 300 → ℝ) : varR v = (∑ k, v k * v k) * (1 / 300) - (∑ k, v k) * (1 / 300) * ((∑ k, v k) * (1 / 300)) := by
  have h : ∀ k, (v k - meanR v) * (v k - meanR v) = v k * v k - 2 * meanR v * v k + meanR v * meanR v := fun k => by ring
  unfold varR
  simp only [h, Finset.sum_add_distrib, Finset.sum_sub_distrib, ← Finset.mul_sum, Finset.sum_const, Finset.card_univ, Fintype.card_fin]
  unfold meanR
  simp only [nsmul_eq_mul]
  push_cast
  ring

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem named_inv : (Named.named κ "inv_h" 0x3B5A740E#32 : Ideal .f32) = ((1 / 300 : ℝ) : EReal) := rfl

theorem rowOf_real (br : EReal) (g b w : Fin 300 → EReal) (v : Fin 300 → ℝ) (BR : Ideal .f32) (G B W : FVec Ideal S1x300 .bf16) (V : FVec Ideal S128x300 .f32) (e : Fin 128)
    (hbr : BR = br) (hg : ∀ k, G (ix2 0 k) = g k) (hb : ∀ k, B (ix2 0 k) = b k) (hw : ∀ k, W (ix2 0 k) = w k)
    (hv : ∀ k, V (ix2 e k) = (v k : EReal)) :
    rowOf BR G B W V (ix3 0 0 e) = scoreR g b w br v := by
  pointwise [rowOf]
  simp only [hbr, hg, hb, hw, hv, named_inv]
  have hr : Ideal.rsqrt ((∑ x, (v x : EReal) * (v x : EReal)) * ((1 / 300 : ℝ) : EReal) - (∑ x, (v x : EReal)) * ((1 / 300 : ℝ) : EReal) * ((∑ x, (v x : EReal)) * ((1 / 300 : ℝ) : EReal)) + Ideal.ofBits FTy.f32 925353388#32)
      = (((Real.sqrt (varR v + eps))⁻¹ : ℝ) : EReal) := by
    have h : 0 < varR v + eps := add_pos_of_nonneg_of_pos (varR_nonneg v) eps_pos
    rw [show Ideal.ofBits FTy.f32 925353388#32 = (eps : EReal) from eps_word]
    simp only [← EReal.coe_mul, ← coe_sum, ← EReal.coe_sub, ← EReal.coe_add]
    rw [← varR_eq, Ideal.rsqrt_coe, if_neg h.le.not_gt, if_neg h.ne']
  rw [hr]
  simp only [← EReal.coe_mul, ← coe_sum, ← EReal.coe_sub, ← EReal.coe_add]
  unfold scoreR eluR normR meanR
  simp only [mul_one_div]

end Cert.Proof.Band

end
-- ==== Proof.Tables.lean ====
/-
  The reference's tables of pairs in closed form, entry by entry: the two coordinates, how far apart they are as a word
  and as a float, and the table of positions both programs return. How many pairs lie that far apart.
-/
module

public import proofs.«01_k».proof.Proof.Words
public import proofs.«01_k».proof.ReferenceIdeal

@[expose] public section

noncomputable section

namespace Cert.Proof.Band

/-- The float word of a small number. -/
def floatWord (r : ℕ) : ℕ := bif Nat.beq r 0 then 0 else (127 + Nat.log2 r) * 8388608 + (r - 2 ^ Nat.log2 r) * 2 ^ (23 - Nat.log2 r)

/-- The reference's entries for pair `n` are the closed form's. -/
def refOK (n : ℕ) : Bool :=
  Nat.beq (Cert.ReferenceIdeal.lit0t n).toNat (emoOf n) && Nat.beq (Cert.ReferenceIdeal.lit1t n).toNat (cauOf n)
    && Nat.beq (Cert.ReferenceIdeal.lit2t n).toNat (relOf n) && Nat.beq (Cert.ReferenceIdeal.lit3t n).toNat (floatWord (relOf n))

/-- The kernel's table of positions holds the reference's two columns side by side. -/
def posOK (n : ℕ) : Bool :=
  Nat.beq (Cert.KernelIdeal.lit2t (2 * n)).toNat (Cert.ReferenceIdeal.lit4t n).toNat && Nat.beq (Cert.KernelIdeal.lit2t (2 * n + 1)).toNat (Cert.ReferenceIdeal.lit5t n).toNat

/-- How many of the first `n` pairs lie `u` apart. -/
def countOf (u n : ℕ) : ℕ := Nat.rec 0 (fun k c => bif Nat.beq (relOf k) u then c + 1 else c) n

/-- The number of pairs that lie `u` apart. -/
def pairsAt (u : ℕ) : ℕ := bif Nat.ble u 12 then 116 + u else 140 - u

set_option maxRecDepth 100000

theorem refs_ok : below refOK 3044 = true := by decide +kernel

theorem poss_ok : below posOK 3044 = true := by decide +kernel

theorem counts_ok : below (fun u => Nat.beq (countOf u 3044) (pairsAt u)) 25 = true := by decide +kernel

theorem ref_facts (n : ℕ) (hn : n < 3044) :
    (Cert.ReferenceIdeal.lit0t n).toNat = emoOf n ∧ (Cert.ReferenceIdeal.lit1t n).toNat = cauOf n
      ∧ (Cert.ReferenceIdeal.lit2t n).toNat = relOf n ∧ (Cert.ReferenceIdeal.lit3t n).toNat = floatWord (relOf n) := by
  have h := (below_iff _ _).1 refs_ok n hn
  unfold refOK at h
  rw [Bool.and_eq_true, Bool.and_eq_true, Bool.and_eq_true] at h
  exact ⟨Nat.eq_of_beq_eq_true h.1.1.1, Nat.eq_of_beq_eq_true h.1.1.2, Nat.eq_of_beq_eq_true h.1.2, Nat.eq_of_beq_eq_true h.2⟩

theorem pos_facts (n : ℕ) (hn : n < 3044) :
    Cert.KernelIdeal.lit2t (2 * n) = Cert.ReferenceIdeal.lit4t n ∧ Cert.KernelIdeal.lit2t (2 * n + 1) = Cert.ReferenceIdeal.lit5t n := by
  have h := (below_iff _ _).1 poss_ok n hn
  unfold posOK at h
  rw [Bool.and_eq_true] at h
  exact ⟨BitVec.eq_of_toNat_eq (Nat.eq_of_beq_eq_true h.1), BitVec.eq_of_toNat_eq (Nat.eq_of_beq_eq_true h.2)⟩

theorem count_facts (u : ℕ) (hu : u < 25) : countOf u 3044 = pairsAt u :=
  Nat.eq_of_beq_eq_true ((below_iff _ _).1 counts_ok u hu)

end Cert.Proof.Band

end
-- ==== Proof.RefRead.lean ====
/-
  The reference's scores at exact arithmetic, on real inputs: the stages of its program, each read at an index.
-/
module

public import proofs.«01_k».proof.Proof.Score
public import proofs.«01_k».proof.Proof.Tables
public import proofs.«01_k».proof.Proof.Gen.ReferenceIdeal
public import proofs.«01_k».proof.Proof.Gen.ReferenceIdeal.Run
public import Idealize.ShloMosaic.Lib.Routing.Ops

@[expose] public section

noncomputable section

namespace Cert.Proof.Band.Ref

open Cert.ReferenceIdeal Cert.ReferenceIdeal.Facts₀ Cert.ReferenceIdeal.Facts
open Idealize.ShloMosaic

/-- A table of row numbers as a column. -/
def column (t : IVec S3044 32) : IVec S3044x1 32 :=
  broadcastInDim S3044x1 ![0] bcast_S3044_S3044x1_0 (select (constantI S3044 1 0#1) (addi t (broadcastInDim S3044 ![] bcast_S_S3044 (constantI S_ 32 128#32))) t)

/-- The rows of the tokens that a table names. -/
def picked (x : FVec Ideal S16x128x300 .f32) (t : IVec S3044 32) : FVec Ideal S16x3044x300 .f32 :=
  Host.gather gather_S16x128x300_S3044x1_S16x3044x300_02_1_n_n_1_1_161300 x (column t)

/-- The kernel matrix over the pairs. -/
def weights : FVec Ideal S3044x3044 .f32 :=
  let r : FVec Ideal S3044 .f32 := fun i => FloatOps.ofBits .f32 (lit3 (S3044.rowMajor i))
  let x := subf (broadcastInDim S3044x3044 ![0, 1] bcast_S3044x1_S3044x3044_0_1 (broadcastInDim S3044x1 ![0] bcast_S3044_S3044x1_0 r))
    (broadcastInDim S3044x3044 ![0, 1] bcast_S1x3044_S3044x3044_0_1 (broadcastInDim S1x3044 ![1] bcast_S3044_S1x3044_1 r))
  Host.exp (Host.negf (mulf x x))

/-- The row of the position table that each pair names. -/
def rowCol : IVec S3044x1 32 :=
  broadcastInDim S3044x1 ![0] bcast_S3044_S3044x1_0 (select (cmpi .slt (fun i => lit2 (S3044.rowMajor i)) (broadcastInDim S3044 ![] bcast_S_S3044 (constantI S_ 32 0#32)))
    (addi (fun i => lit2 (S3044.rowMajor i)) (broadcastInDim S3044 ![] bcast_S_S3044 (constantI S_ 32 25#32))) (fun i => lit2 (S3044.rowMajor i)))

/-- Whether that row is a row of the table. -/
def inTable : IVec S3044x1 1 :=
  andi (cmpi .sge rowCol (broadcastInDim S3044x1 ![] bcast_S_S3044x1 (constantI S_ 32 0#32)))
    (cmpi .sle rowCol (broadcastInDim S3044x1 ![0, 1] bcast_S1x1_S3044x1_0_1 (broadcastInDim S1x1 ![1] bcast_S1_S1x1_1 (constantI S1 32 24#32))))

/-- The position embedding of each pair. -/
def posRows (a3 : FVec Ideal S25x50 .f32) : FVec Ideal S3044x50 .f32 :=
  select (broadcastInDim S3044x50 ![0] bcast_S3044_S3044x50_0 (Host.reduce IntOp.andi inTable (constantI S_ 1 1#1) reducesTo_S3044x1_S3044_d1 h_S_))
    (Host.gather gather_S25x50_S3044x1_S3044x50_1_0_n_n_0_1_150 a3 rowCol) (broadcastInDim S3044x50 ![] bcast_S_S3044x50 (constant S_ .f32 0x7FC00000#32))

/-- The features of each pair. -/
def feats (x y : FVec Ideal S16x3044x300 .f32) (z : FVec Ideal S3044x50 .f32) : FVec Ideal S16x3044x650 .f32 :=
  concatenate S16x3044x650 2 [⟨S16x3044x600, concatenate S16x3044x600 2 [⟨S16x3044x300, x⟩, ⟨S16x3044x300, y⟩] concatenates_S16x3044x300_S16x3044x300_S16x3044x600_d2⟩,
    ⟨S16x3044x50, broadcastInDim S16x3044x50 ![0, 1, 2] bcast_S1x3044x50_S16x3044x50_0_1_2 (broadcastInDim S1x3044x50 ![1, 2] bcast_S3044x50_S1x3044x50_1_2 z)⟩]
    concatenates_S16x3044x600_S16x3044x50_S16x3044x650_d2

/-- The hidden layer before it is normalised. -/
def hidden (f : FVec Ideal S16x3044x650 .f32) (a4 : FVec Ideal S650x300 .f32) (a5 : FVec Ideal S300 .f32) : FVec Ideal S16x3044x300 .f32 :=
  addf (Host.dotGeneral dot_S16x3044x650_S650x300_S16x3044x300_2_0_01_1_n_n none f a4)
    (broadcastInDim S16x3044x300 ![0, 1, 2] bcast_S1x1x300_S16x3044x300_0_1_2 (broadcastInDim S1x1x300 ![2] bcast_S300_S1x1x300_2 a5))

/-- The mean of each row. -/
def means (v : FVec Ideal S16x3044x300 .f32) : FVec Ideal S16x3044x1 .f32 :=
  Host.divf (broadcastInDim S16x3044x1 ![0, 1] bcast_S16x3044_S16x3044x1_0_1 (Host.reduceAdd v (constant S_ .f32 0x00000000#32) reducesTo_S16x3044x300_S16x3044_d2 h_S_))
    (broadcastInDim S16x3044x1 ![] bcast_S_S16x3044x1 (constant S_ .f32 0x43960000#32))

/-- Each row less its mean. -/
def centred (v : FVec Ideal S16x3044x300 .f32) : FVec Ideal S16x3044x300 .f32 :=
  subf v (broadcastInDim S16x3044x300 ![0, 1, 2] bcast_S16x3044x1_S16x3044x300_0_1_2 (means v))

/-- Each row normalised and scaled. -/
def normed (v : FVec Ideal S16x3044x300 .f32) (a6 a7 : FVec Ideal S300 .f32) : FVec Ideal S16x3044x300 .f32 :=
  addf (mulf (Host.divf (centred v) (broadcastInDim S16x3044x300 ![0, 1, 2] bcast_S16x3044x1_S16x3044x300_0_1_2
      (Host.sqrt (addf (means (mulf (centred v) (centred v))) (broadcastInDim S16x3044x1 ![] bcast_S_S16x3044x1 (constant S_ .f32 0x3727C5AC#32))))))
    (broadcastInDim S16x3044x300 ![0, 1, 2] bcast_S1x1x300_S16x3044x300_0_1_2 (broadcastInDim S1x1x300 ![2] bcast_S300_S1x1x300_2 a6)))
    (broadcastInDim S16x3044x300 ![0, 1, 2] bcast_S1x1x300_S16x3044x300_0_1_2 (broadcastInDim S1x1x300 ![2] bcast_S300_S1x1x300_2 a7))

/-- The activation. -/
def activated (x : FVec Ideal S16x3044x300 .f32) : FVec Ideal S16x3044x300 .f32 :=
  let p := cmpf .ogt x (broadcastInDim S16x3044x300 ![] bcast_S_S16x3044x300 (constant S_ .f32 0x00000000#32))
  select p x (mulf (broadcastInDim S16x3044x300 ![] bcast_S_S16x3044x300 (constant S_ .f32 0x3F800000#32))
    (Host.expm1 (select p (broadcastInDim S16x3044x300 ![] bcast_S_S16x3044x300 (id (constant S_ .f32 0x00000000#32))) x)))

/-- The scores. -/
def scores (x : FVec Ideal S16x3044x300 .f32) (a8 : FVec Ideal S300x1 .f32) (a9 : FVec Ideal S1 .f32) : FVec Ideal S16x3044 .f32 :=
  shapeCast _ (addf (Host.dotGeneral dot_S16x3044x300_S300x1_S16x3044x1_2_0_01_1_n_n none x a8)
    (broadcastInDim S16x3044x1 ![0, 1, 2] bcast_S1x1x1_S16x3044x1_0_1_2 (broadcastInDim S1x1x1 ![2] bcast_S1_S1x1x1_2 a9))) shapeCasts_S16x3044x1_S16x3044

/-- The reference's program in stages. -/
def result (a0 a1 a2 : FVec Ideal S16x128x300 .f32) (a3 : FVec Ideal S25x50 .f32) (a4 : FVec Ideal S650x300 .f32) (a5 a6 a7 : FVec Ideal S300 .f32)
    (a8 : FVec Ideal S300x1 .f32) (a9 : FVec Ideal S1 .f32) : FVec Ideal S16x3044 .f32 :=
  scores (activated (normed (hidden (feats (picked (addf a0 a2) (fun i => lit0 (S3044.rowMajor i))) (picked (addf a1 a2) (fun i => lit1 (S3044.rowMajor i)))
    (Host.dotGeneral dot_S3044x3044_S3044x50_S3044x50_1_0_0_1_n_n none weights (posRows a3))) a4 a5) a6 a7)) a8 a9

theorem result_eq (m : (ℓ : Loc nD τ sig) → Buf (Elt Ideal) ℓ) (c : Dev nD) :
    Cert.ReferenceIdeal.Value.res_main_v59 m c
      = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Cert.ReferenceIdeal.Value.res_main_v59; rfl

end Cert.Proof.Band.Ref

end
-- ==== Proof.Reals.lean ====
/-
  The words of the two programs' tables as reals, and the sum over all pairs as a weighted sum over how far apart they lie.
-/
module

public import proofs.«01_k».proof.Proof.Score
public import proofs.«01_k».proof.Proof.Tables
public import proofs.«01_k».proof.Proof.Address
public import Mathlib.Tactic.IntervalCases

@[expose] public section

noncomputable section

namespace Cert.Proof.Band

open Idealize.ShloMosaic

/-- The float words of the numbers below 25. -/
def floatWords : Fin 25 → BitVec 32 := ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32]

theorem floatWords_eq : ∀ u : Fin 25, BitVec.ofNat 32 (floatWord u.val) = floatWords u := by decide +kernel

theorem floatWord_real (r : ℕ) (hr : r < 25) : Ideal.ofBits .f32 (BitVec.ofNat 32 (floatWord r)) = ((r : ℝ) : EReal) := by
  obtain ⟨u, rfl⟩ : ∃ u : Fin 25, u.val = r := ⟨⟨r, hr⟩, rfl⟩
  rw [floatWords_eq u]
  fin_cases u <;> (simp [Ideal.ofBits, Ideal.ieee, floatWords]; try (rw [← EReal.coe_mul]; norm_num))

theorem pairsAt_eq (u : ℕ) : pairsAt u = if u ≤ 12 then 116 + u else 140 - u := by
  unfold pairsAt
  by_cases h : u ≤ 12
  · rw [if_pos h, Nat.ble_eq_true_of_le h]; rfl
  · rw [if_neg h, Bool.eq_false_iff.2 fun e => h (Nat.le_of_ble_eq_true e)]; rfl

theorem counts_real (u : Fin 25) : Ideal.ofBits .f32 (Cert.KernelIdeal.lit0 u) = ((pairsAt u.val : ℝ) : EReal) := by
  fin_cases u <;> (simp [Ideal.ofBits, Ideal.ieee, pairsAt_eq, Cert.KernelIdeal.lit0]; try (rw [← EReal.coe_mul]; norm_num))

theorem sum_countOf (f : ℕ → ℝ) (N : ℕ) (hN : N ≤ 3044) : ∑ n ∈ Finset.range N, f (relOf n) = ∑ u ∈ Finset.range 25, (countOf u N : ℝ) * f u := by
  induction N with
  | zero => simp [countOf]
  | succ N ih =>
    have hs : ∀ u, (countOf u (N + 1) : ℝ) = (countOf u N : ℝ) + if u = relOf N then 1 else 0 := by
      intro u
      show ((bif Nat.beq (relOf N) u then countOf u N + 1 else countOf u N : ℕ) : ℝ) = _
      by_cases h : u = relOf N
      · rw [if_pos h, ← h, Nat.beq_refl]; simp
      · rw [if_neg h]
        have : Nat.beq (relOf N) u = false := by
          rw [Bool.eq_false_iff]; exact fun e => h (Nat.eq_of_beq_eq_true e).symm
        rw [this]; simp
    rw [Finset.sum_range_succ, ih (by omega)]
    simp only [hs, add_mul, Finset.sum_add_distrib, ite_mul, one_mul, zero_mul, Finset.sum_ite_eq', Finset.mem_range]
    rw [if_pos (relOf_lt N (by omega))]

theorem sum_pairs (f : ℕ → ℝ) : ∑ n : Fin 3044, f (relOf n.val) = ∑ u : Fin 25, (pairsAt u.val : ℝ) * f u.val := by
  rw [Fin.sum_univ_eq_sum_range (fun n => f (relOf n)), Fin.sum_univ_eq_sum_range (fun u => (pairsAt u : ℝ) * f u), sum_countOf f 3044 le_rfl]
  exact Finset.sum_congr rfl fun u hu => by rw [count_facts u (Finset.mem_range.1 hu)]

end Cert.Proof.Band

end
-- ==== Proof.BandReal.lean ====
/-
  The score table of the kernel at exact arithmetic, on real inputs.
-/
module

public import proofs.«01_k».proof.Proof.Score
public import proofs.«01_k».proof.Proof.RegionVal

@[expose] public section

noncomputable section

namespace Cert.Proof.Band

open Cert.KernelIdeal Cert.KernelIdeal.Gen
open Idealize.ShloMosaic

/-- A weight row of the second block of weights. -/
abbrev up300 (i : Fin 300) : Fin 650 := ⟨300 + i.val, by omega⟩
/-- A weight row of the first block of weights. -/
abbrev up0 (i : Fin 300) : Fin 650 := ⟨i.val, by omega⟩
/-- A weight row of the last block of weights. -/
abbrev up600 (p : Fin 50) : Fin 650 := ⟨600 + p.val, by omega⟩

/-- The hidden row of one pair: the two sentences' products, the position's product and the bias. -/
def hidR (x y : Fin 300 → ℝ) (z : Fin 50 → ℝ) (w : Fin 650 → Fin 300 → ℝ) (bh : Fin 300 → ℝ) (k : Fin 300) : ℝ :=
  (∑ i, x i * w (up0 i) k) + (∑ i, y i * w (up300 i) k) + ((∑ p, z p * w (up600 p) k) + bh k)

variable (a0 : FVec Ideal S25x25 .f32) (a1 a2 : FVec Ideal S16x128x300 .f32) (a3 : FVec Ideal S25x50 .f32) (a4 : FVec Ideal S650x300 .f32)
  (a5 a6 a7 : FVec Ideal S1x300 .f32) (a8 : FVec Ideal S300x1 .f32) (a9 : FVec Ideal S1x1 .f32)
  (G : Fin 25 → Fin 25 → ℝ) (he hc : Fin 16 → Fin 128 → Fin 300 → ℝ) (pos : Fin 25 → Fin 50 → ℝ) (w : Fin 650 → Fin 300 → ℝ)
  (bh : Fin 300 → ℝ) (g bb wr : Fin 300 → EReal) (br : EReal)

theorem pay7_real (h1 : ∀ b s i, a1 (ix3 b s i) = (he b s i : EReal)) (h4 : ∀ i k, a4 (ix2 i k) = (w i k : EReal)) (b : Fin 16) (e : Fin 128) (k : Fin 300) :
    k0_pay7 (F := Ideal) a4 (bslab a1 b) (ix2 e k) = ((∑ i, he b e i * w (up0 i) k : ℝ) : EReal) := by
  pointwise [k0_pay7, bslab]
  simp only [coe_sum, EReal.coe_mul, ← h1, ← h4]

theorem pay8_real (h2 : ∀ b s i, a2 (ix3 b s i) = (hc b s i : EReal)) (h4 : ∀ i k, a4 (ix2 i k) = (w i k : EReal)) (b : Fin 16) (e : Fin 128) (k : Fin 300) :
    k0_pay8 (F := Ideal) a4 (bslab a2 b) (ix2 e k) = ((∑ i, hc b e i * w (up300 i) k : ℝ) : EReal) := by
  pointwise [k0_pay8, bslab]
  simp only [coe_sum, EReal.coe_mul, ← h2, ← h4]

theorem pay2_real (h0 : ∀ u v, a0 (ix2 u v) = (G u v : EReal)) (h3 : ∀ u p, a3 (ix2 u p) = (pos u p : EReal)) (h4 : ∀ i k, a4 (ix2 i k) = (w i k : EReal))
    (h5 : ∀ k, a5 (ix2 0 k) = (bh k : EReal)) (d : Fin 25) (k : Fin 300) :
    k0_pay2 (F := Ideal) a4 a0 a3 a5 (ix2 d k) = (((∑ p, (∑ u, G d u * pos u p) * w (up600 p) k) + bh k : ℝ) : EReal) := by
  pointwise [k0_pay2]
  simp only [coe_sum, EReal.coe_add, EReal.coe_mul, ← h0, ← h3, ← h4, ← h5]

theorem bandAt_real (h0 : ∀ u v, a0 (ix2 u v) = (G u v : EReal)) (h1 : ∀ b s i, a1 (ix3 b s i) = (he b s i : EReal)) (h2 : ∀ b s i, a2 (ix3 b s i) = (hc b s i : EReal))
    (h3 : ∀ u p, a3 (ix2 u p) = (pos u p : EReal)) (h4 : ∀ i k, a4 (ix2 i k) = (w i k : EReal)) (h5 : ∀ k, a5 (ix2 0 k) = (bh k : EReal))
    (h6 : ∀ k, a6 (ix2 0 k) = g k) (h7 : ∀ k, a7 (ix2 0 k) = bb k) (h8 : ∀ k, a8 (ix2 k 0) = wr k) (h9 : a9 (ix2 0 0) = br)
    (b : Fin 16) (d : Fin 25) (e c : Fin 128) (hcd : c.val = (e.val + (d.val + 116)) % 128) :
    bandAt (F := Ideal) a0 a1 a2 a3 a4 a5 a6 a7 a8 a9 b d e
      = scoreR g bb wr br (hidR (he b e) (hc b c) (fun p => ∑ u, G d u * pos u p) w bh) := by
  unfold bandAt storedRow
  refine rowOf_real br g bb wr _ _ _ _ _ _ e ?_ ?_ ?_ ?_ ?_
  · exact (congrArg a9 (funext fun a => by fin_cases a <;> rfl)).trans h9
  · intro k; rw [← h6]; pointwise [k0_pay4]
  · intro k; rw [← h7]; pointwise [k0_pay5]
  · intro k; rw [← h8]; pointwise [k0_pay6]
  · intro k
    have hc' : (⟨(e.val + (d.val + 116)) % 128, Nat.mod_lt _ (by omega)⟩ : Fin 128) = c := Fin.ext hcd.symm
    show (k0_pay7 (F := Ideal) a4 (bslab a1 b) (ix2 e k) + k0_pay8 (F := Ideal) a4 (bslab a2 b) (ix2 (⟨(e.val + (d.val + 116)) % 128, Nat.mod_lt _ (by omega)⟩ : Fin 128) k)) + k0_pay2 (F := Ideal) a4 a0 a3 a5 (ix2 d k) = _
    rw [hc', pay7_real a1 a4 he w h1 h4, pay8_real a2 a4 hc w h2 h4, pay2_real a0 a3 a4 a5 G pos w bh h0 h3 h4 h5, ← EReal.coe_add, ← EReal.coe_add]
    rfl

end Cert.Proof.Band

end
-- ==== Proof.RefReal.lean ====
/-
  The reference's stages on real inputs.
-/
module

public import proofs.«01_k».proof.Proof.RefRead
public import proofs.«01_k».proof.Proof.Reals
public import proofs.«01_k».proof.Proof.BandReal
public import Idealize.ShloMosaic.Lib.ReduceAll

@[expose] public section

noncomputable section

namespace Cert.Proof.Band.Ref

open Cert.ReferenceIdeal Cert.ReferenceIdeal.Facts₀ Cert.ReferenceIdeal.Facts
open Idealize.ShloMosaic

theorem word300 : Ideal.ofBits .f32 0x43960000#32 = ((300 : ℝ) : EReal) := by
  simp [Ideal.ofBits, Ideal.ieee]
  rw [← EReal.coe_mul]; norm_num

theorem word1 : Ideal.ofBits .f32 0x3F800000#32 = ((1 : ℝ) : EReal) := by
  simp [Ideal.ofBits, Ideal.ieee]
  try (rw [← EReal.coe_mul]; norm_num)

theorem word0 : Ideal.ofBits .f32 0x00000000#32 = ((0 : ℝ) : EReal) := by
  simp [Ideal.ofBits, Ideal.ieee]

theorem means_real (v : FVec Ideal S16x3044x300 .f32) (r : Fin 300 → ℝ) (b : Fin 16) (n : Fin 3044) (h : ∀ k, v (ix3 b n k) = (r k : EReal)) :
    means v (ix3 b n 0) = ((meanR r : ℝ) : EReal) := by
  pointwise [means]
  simp only [h]
  rw [show Ideal.ofBits FTy.f32 1133903872#32 = ((300 : ℝ) : EReal) from word300, Ideal.div_coe (by norm_num), ← coe_sum, ← EReal.coe_mul, mul_one_div]
  rfl

theorem scores_read (x : FVec Ideal S16x3044x300 .f32) (a8 : FVec Ideal S300x1 .f32) (a9 : FVec Ideal S1 .f32) (b : Fin 16) (n : Fin 3044) :
    scores x a8 a9 (ix2 b n) = (∑ k, x (ix3 b n k) * a8 (ix2 k 0)) + a9 (ix1 0) := by
  pointwise [scores]

theorem activated_read (x : FVec Ideal S16x3044x300 .f32) (b : Fin 16) (n : Fin 3044) (k : Fin 300) : activated x (ix3 b n k) = eluR (x (ix3 b n k)) := by
  pointwise [activated]
  unfold eluR
  by_cases hr : (0 : EReal) < x (ix3 b n k)
  · rw [if_pos hr, if_pos hr]
  · rw [if_neg hr, if_neg hr, if_neg hr]

theorem hidden_read (f : FVec Ideal S16x3044x650 .f32) (a4 : FVec Ideal S650x300 .f32) (a5 : FVec Ideal S300 .f32) (b : Fin 16) (n : Fin 3044) (k : Fin 300) :
    hidden f a4 a5 (ix3 b n k) = (∑ i : Fin 650, f (ix3 b n i) * a4 (ix2 i k)) + a5 (ix1 k) := by
  pointwise [hidden]

theorem feats_up0 (x y : FVec Ideal S16x3044x300 .f32) (z : FVec Ideal S3044x50 .f32) (b : Fin 16) (n : Fin 3044) (i : Fin 300) :
    feats x y z (ix3 b n (up0 i)) = x (ix3 b n i) := by
  pointwise [feats]
  exact dif_pos (by have := i.isLt; omega)

theorem feats_up300 (x y : FVec Ideal S16x3044x300 .f32) (z : FVec Ideal S3044x50 .f32) (b : Fin 16) (n : Fin 3044) (i : Fin 300) :
    feats x y z (ix3 b n (up300 i)) = y (ix3 b n i) := by
  pointwise [feats]
  exact dif_pos (by have := i.isLt; omega)

theorem feats_up600 (x y : FVec Ideal S16x3044x300 .f32) (z : FVec Ideal S3044x50 .f32) (b : Fin 16) (n : Fin 3044) (i : Fin 50) :
    feats x y z (ix3 b n (up600 i)) = z (ix2 n i) := by
  pointwise [feats]

/-- A sum over the rows of the weights, block by block. -/
theorem sum_blocks (f : Fin 650 → EReal) : ∑ i, f i = (∑ i, f (up0 i)) + (∑ i, f (up300 i)) + ∑ p, f (up600 p) := by
  rw [show (∑ i, f i) = ∑ i : Fin (600 + 50), f i from rfl, Fin.sum_univ_add,
    show (∑ i : Fin 600, f (Fin.castAdd 50 i)) = ∑ i : Fin (300 + 300), f (Fin.castAdd 50 i) from rfl, Fin.sum_univ_add]
  rfl

theorem lit_at (f : Fin 3044 → BitVec 32) (n : Fin 3044) : f (S3044.rowMajor (ix1 n)) = f n := by
  refine congrArg f (Fin.ext ?_)
  exact Shape.rowMajor_val_one _

theorem weights_real (i j : Fin 3044) : weights (ix2 i j) = ((Real.exp (-(((relOf i.val : ℝ) - relOf j.val) * ((relOf i.val : ℝ) - relOf j.val))) : ℝ) : EReal) := by
  have h (n : Fin 3044) : Ideal.ofBits FTy.f32 (lit3 (S3044.rowMajor (ix1 n))) = ((relOf n.val : ℝ) : EReal) := by
    rw [show lit3 (S3044.rowMajor (ix1 n)) = lit3 n from lit_at lit3 n, ← floatWord_real _ (relOf_lt _ n.isLt), ← (ref_facts n.val n.isLt).2.2.2, BitVec.ofNat_toNat, BitVec.setWidth_eq]
  pointwise [weights]
  simp only [h]
  simp only [← EReal.coe_mul, ← EReal.coe_sub, ← EReal.coe_neg, Ideal.exp_coe]

theorem normed_real (v : FVec Ideal S16x3044x300 .f32) (a6 a7 : FVec Ideal S300 .f32) (r : Fin 300 → ℝ) (g bb : Fin 300 → EReal) (b : Fin 16) (n : Fin 3044) (h : ∀ k, v (ix3 b n k) = (r k : EReal))
    (h6 : ∀ k, a6 (ix1 k) = g k) (h7 : ∀ k, a7 (ix1 k) = bb k) (k : Fin 300) :
    normed v a6 a7 (ix3 b n k) = (normR r k : EReal) * g k + bb k := by
  have hc (k : Fin 300) : centred v (ix3 b n k) = ((r k - meanR r : ℝ) : EReal) := by
    pointwise [centred]
    rw [means_real v r b n h, h, EReal.coe_sub]
  have hv : means (mulf (centred v) (centred v)) (ix3 b n 0) = ((varR r : ℝ) : EReal) :=
    means_real _ (fun k => (r k - meanR r) * (r k - meanR r)) b n fun k => by
      show centred v (ix3 b n k) * centred v (ix3 b n k) = _
      rw [hc, EReal.coe_mul]
  have hp : 0 < varR r + eps := add_pos_of_nonneg_of_pos (varR_nonneg r) eps_pos
  pointwise [normed]
  rw [hv, hc, h6, h7, show Ideal.ofBits FTy.f32 925353388#32 = (eps : EReal) from eps_word, ← EReal.coe_add, Ideal.sqrt_coe, if_neg hp.le.not_gt,
    Ideal.div_coe (Real.sqrt_pos.2 hp).ne', one_div, ← EReal.coe_mul]
  rfl

theorem column_at (t : IVec S3044 32) (n : Fin 3044) : column t (ix2 n 0) = t (ix1 n) := by
  pointwise [column]
  try rfl

theorem picked_at (x : FVec Ideal S16x128x300 .f32) (t : IVec S3044 32) (b : Fin 16) (n : Fin 3044) (i : Fin 300) (c : Fin 128) (hc : t (ix1 n) = BitVec.ofNat 32 c.val) :
    picked x t (ix3 b n i) = x (ix3 b c i) := by
  unfold picked Host.gather
  refine congrArg x (funext fun a => Fin.ext ?_)
  have ha : a = 0 ∨ a = 1 ∨ a = 2 := by fin_cases a <;> simp
  show gather_S16x128x300_S3044x1_S16x3044x300_02_1_n_n_1_1_161300.start (ix3 b n i) (column t) a
    + gather_S16x128x300_S3044x1_S16x3044x300_02_1_n_n_1_1_161300.batchCoord (ix3 b n i) a
    + gather_S16x128x300_S3044x1_S16x3044x300_02_1_n_n_1_1_161300.offCoord (ix3 b n i) a = _
  rw [GatherDims.batchCoord_eq_zero _ _ _ List.not_mem_nil, Nat.add_zero]
  rcases ha with rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S16x128x300_S3044x1_S16x3044x300_02_1_n_n_1_1_161300.siIdx (ix3 b n i) ⟨List.idxOf (1 : Fin 3) gather_S16x128x300_S3044x1_S16x3044x300_02_1_n_n_1_1_161300.startIndexMap, by decide⟩ = ix2 n 0 := by
      funext a'
      fin_cases a' <;> rfl
    rw [hsi, column_at, hc, StableHlo.Predicate.toInt_ofNat_small _ (by have := c.isLt; omega)]
    show min ((c.val : Int)).toNat 127 = c.val
    have := c.isLt; omega
  · unfold GatherDims.start GatherDims.offCoord
    rw [dif_neg (by decide), dif_pos (by decide), Nat.zero_add]
    rfl

theorem rowCol_at (n : Fin 3044) : rowCol (ix2 n 0) = BitVec.ofNat 32 (relOf n.val) := by
  have h : lit2 (S3044.rowMajor (ix1 n)) = BitVec.ofNat 32 (relOf n.val) := by
    rw [show lit2 (S3044.rowMajor (ix1 n)) = lit2 n from lit_at lit2 n, ← (ref_facts n.val n.isLt).2.2.1, BitVec.ofNat_toNat, BitVec.setWidth_eq]
  have hd : ∀ u : Fin 25, Scalar.select (IntOp.cmpi .slt (BitVec.ofNat 32 u.val) 0#32) (IntOp.addi (BitVec.ofNat 32 u.val) 25#32) (BitVec.ofNat 32 u.val) = BitVec.ofNat 32 u.val := by decide +kernel
  pointwise [rowCol]
  rw [h]
  exact hd ⟨_, relOf_lt _ n.isLt⟩

theorem inTable_at (n : Fin 3044) : inTable (ix2 n 0) = 1#1 := by
  have hd : ∀ u : Fin 25, IntOp.andi (IntOp.cmpi .sge (BitVec.ofNat 32 u.val) 0#32) (IntOp.cmpi .sle (BitVec.ofNat 32 u.val) 24#32) = 1#1 := by decide +kernel
  show IntOp.andi (IntOp.cmpi .sge (rowCol (ix2 n 0)) 0#32) (IntOp.cmpi .sle (rowCol (ix2 n 0)) 24#32) = 1#1
  rw [rowCol_at]
  exact hd ⟨_, relOf_lt _ n.isLt⟩

theorem posRows_at (a3 : FVec Ideal S25x50 .f32) (n : Fin 3044) (p : Fin 50) : posRows a3 (ix2 n p) = a3 (ix2 ⟨relOf n.val, relOf_lt _ n.isLt⟩ p) := by
  have hm (j : S3044.Idx) : Host.reduce IntOp.andi inTable (constantI S_ 1 1#1) reducesTo_S3044x1_S3044_d1 h_S_ j = 1#1 :=
    Host.reduce_andi_one _ _ _ _ j rfl fun i => by
      have : i = ix2 (i 0) 0 := by funext a; fin_cases a <;> [rfl; exact Fin.ext (by have := (i 1).isLt; show (i 1).val = 0; change (i 1).val < 1 at this; omega)]
      rw [this]; exact inTable_at (i 0)
  have hg := Routing.gather_row gather_S25x50_S3044x1_S3044x50_1_0_n_n_0_1_150 rfl rfl rfl rfl rfl a3 rowCol n p ⟨relOf n.val, relOf_lt _ n.isLt⟩ (rowCol_at n) (by norm_num)
  refine Eq.trans ?_ hg
  show Scalar.select (Host.reduce IntOp.andi inTable (constantI S_ 1 1#1) reducesTo_S3044x1_S3044_d1 h_S_ _) _ _ = _
  rw [hm]
  rfl

end Cert.Proof.Band.Ref

end
-- ==== Proof.KernReal.lean ====
/-
  The kernel's result at exact arithmetic, on real inputs.
-/
module

public import proofs.«01_k».proof.Proof.Main
public import proofs.«01_k».proof.Proof.BandReal
public import proofs.«01_k».proof.Proof.Reals
public import Idealize.ShloMosaic.Lib.Routing.Ops

@[expose] public section

set_option maxRecDepth 16384

noncomputable section

namespace Cert.Proof.Band

open Cert.KernelIdeal Cert.KernelIdeal.Gen
open Idealize.ShloMosaic Idealize.ShloMosaic.TcCoe

/-- How much the position `u` weighs at distance `d`: the number of pairs there times the kernel function. -/
def gainR (d u : Fin 25) : ℝ := (pairsAt u.val : ℝ) * Real.exp (-(((d.val : ℝ) - u.val) * ((d.val : ℝ) - u.val)))

/-- The kernel's weighted kernel matrix. -/
def gains : FVec Ideal S25x25 .f32 :=
  let r : FVec Ideal S25 .f32 := sitofp .f32 (iotaInDim S25 32 0)
  let x := subf (broadcastInDim S25x25 ![0, 1] bcast_S25x1_S25x25_0_1 (broadcastInDim S25x1 ![0] bcast_S25_S25x1_0 r))
    (broadcastInDim S25x25 ![0, 1] bcast_S1x25_S25x25_0_1 (broadcastInDim S1x25 ![1] bcast_S25_S1x25_1 r))
  let c : FVec Ideal S25 .f32 := fun i => FloatOps.ofBits .f32 (lit0 (S25.rowMajor i))
  mulf (broadcastInDim S25x25 ![0, 1] bcast_S1x25_S25x25_0_1 (broadcastInDim S1x25 ![1] bcast_S25_S1x25_1 c)) (Host.exp (Host.negf (mulf x x)))

theorem gains_real (d u : Fin 25) : gains (ix2 d u) = ((gainR d u : ℝ) : EReal) := by
  have hi (n : Fin 25) : (FloatOps.sitofp FTy.f32 (BitVec.ofNat 32 n.val) : Ideal .f32) = ((n.val : ℝ) : EReal) := by
    show (((BitVec.ofNat 32 n.val).toInt : ℝ) : EReal) = _
    rw [StableHlo.Predicate.toInt_ofNat_small _ (by have := n.isLt; omega), Int.cast_natCast]
  have hl : lit0 (S25.rowMajor (ix1 u)) = lit0 u := congrArg lit0 (Fin.ext (Shape.rowMajor_val_one _))
  pointwise [gains]
  rw [hi, hi, hl, counts_real]
  simp only [← EReal.coe_mul, ← EReal.coe_sub, ← EReal.coe_neg, Ideal.exp_coe]
  rfl

variable (m : (ℓ : Loc nD τ sig) → Buf (Elt Ideal) ℓ) (d : Dev nD)

theorem V1_v11 : V1 m d main_v11 = gains := by
  unfold V1 W1 opsA
  after_results_simp
  rfl

theorem V1_v12 : V1 m d main_v12 = addf (F := Ideal) (s := S16x128x300) (φ := .f32) (m ((d.tc : Thread nD τ).loc main_arg0)) (m ((d.tc : Thread nD τ).loc main_arg2)) := by
  unfold V1 W1 opsA
  after_results_simp
  rfl

theorem V1_v13 : V1 m d main_v13 = addf (F := Ideal) (s := S16x128x300) (φ := .f32) (m ((d.tc : Thread nD τ).loc main_arg1)) (m ((d.tc : Thread nD τ).loc main_arg2)) := by
  unfold V1 W1 opsA
  after_results_simp
  rfl

theorem V1_v14 : V1 m d main_v14 = shapeCast S1x300 (m ((d.tc : Thread nD τ).loc main_arg5)) shapeCasts_S300_S1x300 := by
  unfold V1 W1 opsA
  after_results_simp
  rfl

theorem V1_v15 : V1 m d main_v15 = shapeCast S1x300 (m ((d.tc : Thread nD τ).loc main_arg6)) shapeCasts_S300_S1x300 := by
  unfold V1 W1 opsA
  after_results_simp
  rfl

theorem V1_v16 : V1 m d main_v16 = shapeCast S1x300 (m ((d.tc : Thread nD τ).loc main_arg7)) shapeCasts_S300_S1x300 := by
  unfold V1 W1 opsA
  after_results_simp
  rfl

theorem V1_v17 : V1 m d main_v17 = shapeCast S1x1 (m ((d.tc : Thread nD τ).loc main_arg9)) shapeCasts_S1_S1x1 := by
  unfold V1 W1 opsA
  after_results_simp
  rfl

theorem W1_c0 : W1 m d (Proc.devRef .tc main_c_0) = fun i => lit2 (S3044x2.rowMajor i) := by
  unfold W1 opsA
  after_results_simp
  rfl

theorem W5_v22 (G) : W5 m d G (Proc.devRef .tc main_v22) = extractStridedSlice S16x3044 ![0, 0] (shapeCast S16x3072 (outV m d) shapeCasts_S49152_S16x3072) slices_S16x3072_S16x3044_0_0 := by
  unfold W5 opsC
  after_results_simp
  unfold W4
  rw [Function.update_self]
  rfl

theorem out_at (b : Fin 16) (n : Fin 3044) :
    extractStridedSlice S16x3044 ![0, 0] (shapeCast S16x3072 (outV m d) shapeCasts_S49152_S16x3072) slices_S16x3072_S16x3044_0_0 (ix2 b n)
      = tbl m d b ⟨relOf n.val, relOf_lt _ n.isLt⟩ ⟨emoOf n.val, emoOf_lt _ n.isLt⟩ := by
  have hn := n.isLt
  have hb := b.isLt
  have h1 : extractStridedSlice S16x3044 ![0, 0] (shapeCast S16x3072 (outV m d) shapeCasts_S49152_S16x3072) slices_S16x3072_S16x3044_0_0 (ix2 b n)
      = shapeCast S16x3072 (outV m d) shapeCasts_S49152_S16x3072 (ix2 b (⟨n.val, by omega⟩ : Fin 3072)) := by
    refine congrArg (shapeCast S16x3072 (outV m d) shapeCasts_S49152_S16x3072) (funext fun a => Fin.ext ?_)
    fin_cases a
    · exact Nat.zero_add _
    · exact Nat.zero_add _
  have h2 : shapeCast S16x3072 (outV m d) shapeCasts_S49152_S16x3072 (ix2 b (⟨n.val, by omega⟩ : Fin 3072)) = outV m d (ix1 (⟨b.val * 3072 + n.val, by omega⟩ : Fin 49152)) := by
    show outV m d _ = outV m d _
    congr 1
    refine Shape.reshapeEquiv_eq_of_rowMajor _ ?_
    have h1 : (S49152.rowMajor (ix1 (⟨b.val * 3072 + n.val, by omega⟩ : Fin 49152))).val = b.val * 3072 + n.val := Shape.rowMajor_val_one _
    have h2 : (S16x3072.rowMajor (ix2 b (⟨n.val, by omega⟩ : Fin 3072))).val = b.val * 3072 + n.val := Shape.rowMajor_val_two _
    exact h1.trans h2.symm
  rw [h1, h2]
  have hq : (b.val * 3072 + n.val) / 3072 = b.val := by omega
  have hr : (b.val * 3072 + n.val) % 3072 = n.val := by omega
  have he := emoOf_lt n.val hn
  have hs : selOf n.val = relOf n.val * 128 + emoOf n.val := by
    unfold selOf
    rw [ble_dec, decide_eq_false (by omega)]; rfl
  have e1 : (⟨(b.val * 3072 + n.val) / 3072, by omega⟩ : Fin 16) = b := Fin.ext hq
  have e2 : (⟨selOf ((b.val * 3072 + n.val) % 3072) / 128, by have := selOf_lt ((b.val * 3072 + n.val) % 3072); omega⟩ : Fin 25) = ⟨relOf n.val, relOf_lt _ n.isLt⟩ :=
    Fin.ext (by show selOf ((b.val * 3072 + n.val) % 3072) / 128 = relOf n.val; rw [hr, hs]; omega)
  have e3 : (⟨selOf ((b.val * 3072 + n.val) % 3072) % 128, Nat.mod_lt _ (by omega)⟩ : Fin 128) = ⟨emoOf n.val, he⟩ :=
    Fin.ext (by show selOf ((b.val * 3072 + n.val) % 3072) % 128 = emoOf n.val; rw [hr, hs]; omega)
  show tbl m d ⟨(b.val * 3072 + n.val) / 3072, _⟩ ⟨selOf ((b.val * 3072 + n.val) % 3072) / 128, _⟩ ⟨selOf ((b.val * 3072 + n.val) % 3072) % 128, _⟩ = _
  rw [e1, e2, e3]

variable (x0 x1 x2 : Fin 16 → Fin 128 → Fin 300 → ℝ) (pos : Fin 25 → Fin 50 → ℝ) (w : Fin 650 → Fin 300 → ℝ) (bh : Fin 300 → ℝ) (g bb wr : Fin 300 → EReal) (br : EReal)

/-- The score of pair `n` of batch `b`. -/
def pairR (b : Fin 16) (n : Fin 3044) : EReal :=
  scoreR g bb wr br (hidR (fun i => x0 b ⟨emoOf n.val, emoOf_lt _ n.isLt⟩ i + x2 b ⟨emoOf n.val, emoOf_lt _ n.isLt⟩ i)
    (fun i => x1 b ⟨cauOf n.val, (pair_facts _ n.isLt).2.2⟩ i + x2 b ⟨cauOf n.val, (pair_facts _ n.isLt).2.2⟩ i)
    (fun p => ∑ u, gainR ⟨relOf n.val, relOf_lt _ n.isLt⟩ u * pos u p) w bh)

theorem kernel_real
    (h0 : ∀ b s i, (m ((d.tc : Thread nD τ).loc main_arg0) : FVec Ideal S16x128x300 .f32) (ix3 b s i) = (x0 b s i : EReal))
    (h1 : ∀ b s i, (m ((d.tc : Thread nD τ).loc main_arg1) : FVec Ideal S16x128x300 .f32) (ix3 b s i) = (x1 b s i : EReal))
    (h2 : ∀ b s i, (m ((d.tc : Thread nD τ).loc main_arg2) : FVec Ideal S16x128x300 .f32) (ix3 b s i) = (x2 b s i : EReal))
    (h3 : ∀ u p, (m ((d.tc : Thread nD τ).loc main_arg3) : FVec Ideal S25x50 .f32) (ix2 u p) = (pos u p : EReal))
    (h4 : ∀ i k, (m ((d.tc : Thread nD τ).loc main_arg4) : FVec Ideal S650x300 .f32) (ix2 i k) = (w i k : EReal))
    (h5 : ∀ k, (m ((d.tc : Thread nD τ).loc main_arg5) : FVec Ideal S300 .f32) (ix1 k) = (bh k : EReal))
    (h6 : ∀ k, (m ((d.tc : Thread nD τ).loc main_arg6) : FVec Ideal S300 .f32) (ix1 k) = g k)
    (h7 : ∀ k, (m ((d.tc : Thread nD τ).loc main_arg7) : FVec Ideal S300 .f32) (ix1 k) = bb k)
    (h8 : ∀ k, (m ((d.tc : Thread nD τ).loc main_arg8) : FVec Ideal S300x1 .f32) (ix2 k 0) = wr k)
    (h9 : (m ((d.tc : Thread nD τ).loc main_arg9) : FVec Ideal S1 .f32) (ix1 0) = br) (G) (b : Fin 16) (n : Fin 3044) :
    (W5 m d G (Proc.devRef .tc main_v22) : FVec Ideal S16x3044 .f32) (ix2 b n) = pairR x0 x1 x2 pos w bh g bb wr br b n := by
  have hcast (a : FVec Ideal S300 .f32) (k : Fin 300) : shapeCast S1x300 a shapeCasts_S300_S1x300 (ix2 0 k) = a (ix1 k) := by pointwise []
  have hcast1 (a : FVec Ideal S1 .f32) : shapeCast S1x1 a shapeCasts_S1_S1x1 (ix2 0 0) = a (ix1 0) := by pointwise []
  rw [W5_v22, out_at]
  unfold tbl
  rw [V1_v11, V1_v12, V1_v13, V1_v14, V1_v15, V1_v16, V1_v17]
  refine (bandAt_real _ _ _ _ _ _ _ _ _ _ gainR (fun b s i => x0 b s i + x2 b s i) (fun b s i => x1 b s i + x2 b s i) pos w bh g bb wr br
    gains_real (fun b s i => ?_) (fun b s i => ?_) (fun u p => ?_) (fun i k => ?_) (fun k => ?_) (fun k => ?_) (fun k => ?_) (fun k => ?_) ?_ b _ _ ⟨cauOf n.val, (pair_facts _ n.isLt).2.2⟩ ?_).trans rfl
  · rw [EReal.coe_add, ← h0, ← h2]; rfl
  · rw [EReal.coe_add, ← h1, ← h2]; rfl
  · exact (congrFun (W1_of m d main_arg3 (by decide)) _).trans (h3 u p)
  · exact (congrFun (W1_of m d main_arg4 (by decide)) _).trans (h4 i k)
  · exact (hcast _ k).trans (h5 k)
  · exact (hcast _ k).trans (h6 k)
  · exact (hcast _ k).trans (h7 k)
  · exact (congrFun (W1_of m d main_arg8 (by decide)) _).trans (h8 k)
  · exact (hcast1 _).trans h9
  · have hp := pair_facts n.val n.isLt
    have he := emoOf_lt n.val n.isLt
    show cauOf n.val = (emoOf n.val + (relOf n.val + 116)) % 128
    unfold relOf
    omega

end Cert.Proof.Band

end
-- ==== Proof.RefFinal.lean ====
/-
  The reference's result at exact arithmetic, on real inputs: the same score of each pair.
-/
module

public import proofs.«01_k».proof.Proof.RefReal
public import proofs.«01_k».proof.Proof.KernReal

@[expose] public section

noncomputable section

namespace Cert.Proof.Band.Ref

open Cert.ReferenceIdeal Cert.ReferenceIdeal.Facts₀ Cert.ReferenceIdeal.Facts
open Idealize.ShloMosaic

theorem mix_read (x : FVec Ideal S3044x3044 .f32) (y : FVec Ideal S3044x50 .f32) (n : Fin 3044) (p : Fin 50) :
    Host.dotGeneral dot_S3044x3044_S3044x50_S3044x50_1_0_0_1_n_n none x y (ix2 n p) = ∑ j, x (ix2 n j) * y (ix2 j p) := by
  pointwise []

/-- The weighted sum of the embeddings over the pairs is the kernel's over the distances. -/
theorem mix_real (a3 : FVec Ideal S25x50 .f32) (pos : Fin 25 → Fin 50 → ℝ) (h3 : ∀ u p, a3 (ix2 u p) = (pos u p : EReal)) (n : Fin 3044) (p : Fin 50) :
    Host.dotGeneral dot_S3044x3044_S3044x50_S3044x50_1_0_0_1_n_n none weights (posRows a3) (ix2 n p)
      = ((∑ u, gainR ⟨relOf n.val, relOf_lt _ n.isLt⟩ u * pos u p : ℝ) : EReal) := by
  rw [mix_read]
  simp only [weights_real, posRows_at, h3, ← EReal.coe_mul, ← coe_sum]
  congr 1
  have hp (u : ℕ) (hu : u < 25) : (if h : u < 25 then pos ⟨u, h⟩ p else 0) = pos ⟨u, hu⟩ p := dif_pos hu
  have e := sum_pairs fun u => Real.exp (-(((relOf n.val : ℝ) - u) * ((relOf n.val : ℝ) - u))) * (if h : u < 25 then pos ⟨u, h⟩ p else 0)
  simp only [hp _ (relOf_lt _ (Fin.isLt _)), hp _ (Fin.isLt _)] at e
  rw [e]
  refine Finset.sum_congr rfl fun u _ => ?_
  unfold gainR
  rw [mul_assoc]

theorem word_of (x : BitVec 32) (k : ℕ) (h : x.toNat = k) : x = BitVec.ofNat 32 k := by
  rw [← h, BitVec.ofNat_toNat, BitVec.setWidth_eq]

variable (a0 a1 a2 : FVec Ideal S16x128x300 .f32) (a3 : FVec Ideal S25x50 .f32) (a4 : FVec Ideal S650x300 .f32) (a5 a6 a7 : FVec Ideal S300 .f32)
  (a8 : FVec Ideal S300x1 .f32) (a9 : FVec Ideal S1 .f32)
  (x0 x1 x2 : Fin 16 → Fin 128 → Fin 300 → ℝ) (pos : Fin 25 → Fin 50 → ℝ) (w : Fin 650 → Fin 300 → ℝ) (bh : Fin 300 → ℝ) (g bb wr : Fin 300 → EReal) (br : EReal)

theorem result_real (h0 : ∀ b s i, a0 (ix3 b s i) = (x0 b s i : EReal)) (h1 : ∀ b s i, a1 (ix3 b s i) = (x1 b s i : EReal)) (h2 : ∀ b s i, a2 (ix3 b s i) = (x2 b s i : EReal))
    (h3 : ∀ u p, a3 (ix2 u p) = (pos u p : EReal)) (h4 : ∀ i k, a4 (ix2 i k) = (w i k : EReal)) (h5 : ∀ k, a5 (ix1 k) = (bh k : EReal))
    (h6 : ∀ k, a6 (ix1 k) = g k) (h7 : ∀ k, a7 (ix1 k) = bb k) (h8 : ∀ k, a8 (ix2 k 0) = wr k) (h9 : a9 (ix1 0) = br)
    (b : Fin 16) (n : Fin 3044) :
    result a0 a1 a2 a3 a4 a5 a6 a7 a8 a9 (ix2 b n) = pairR x0 x1 x2 pos w bh g bb wr br b n := by
  have hE (i : Fin 300) : picked (addf a0 a2) (fun i => lit0 (S3044.rowMajor i)) (ix3 b n i) = ((x0 b ⟨emoOf n.val, emoOf_lt _ n.isLt⟩ i + x2 b ⟨emoOf n.val, emoOf_lt _ n.isLt⟩ i : ℝ) : EReal) := by
    rw [picked_at _ _ b n i ⟨emoOf n.val, emoOf_lt _ n.isLt⟩ ((lit_at lit0 n).trans (word_of _ _ (ref_facts n.val n.isLt).1)), EReal.coe_add, ← h0, ← h2]
    rfl
  have hC (i : Fin 300) : picked (addf a1 a2) (fun i => lit1 (S3044.rowMajor i)) (ix3 b n i) = ((x1 b ⟨cauOf n.val, (pair_facts _ n.isLt).2.2⟩ i + x2 b ⟨cauOf n.val, (pair_facts _ n.isLt).2.2⟩ i : ℝ) : EReal) := by
    rw [picked_at _ _ b n i ⟨cauOf n.val, (pair_facts _ n.isLt).2.2⟩ ((lit_at lit1 n).trans (word_of _ _ (ref_facts n.val n.isLt).2.1)), EReal.coe_add, ← h1, ← h2]
    rfl
  unfold result
  rw [scores_read, h9]
  unfold pairR scoreR
  congr 1
  refine Finset.sum_congr rfl fun k _ => ?_
  rw [mul_comm, h8, activated_read]
  refine congrArg (fun x => wr k * eluR x) (normed_real _ a6 a7 _ g bb b n (fun k => ?_) h6 h7 k)
  rw [hidden_read, sum_blocks]
  simp only [feats_up0, feats_up300, feats_up600, hE, hC, mix_real a3 pos h3, h4, h5, ← EReal.coe_mul, ← coe_sum, ← EReal.coe_add]
  unfold hidR
  rw [add_assoc]

/-- The two columns of positions, side by side. -/
def positions : IVec S3044x2 32 :=
  concatenate S3044x2 1 [⟨S3044x1, broadcastInDim S3044x1 ![0] bcast_S3044_S3044x1_0 (fun i => lit4 (S3044.rowMajor i))⟩,
    ⟨S3044x1, broadcastInDim S3044x1 ![0] bcast_S3044_S3044x1_0 (fun i => lit5 (S3044.rowMajor i))⟩] concatenates_S3044x1_S3044x1_S3044x2_d1

theorem kernelAt (n : Fin 3044) (s : Fin 2) : Cert.KernelIdeal.lit2 (Cert.KernelIdeal.S3044x2.rowMajor (ix2 n s)) = Cert.KernelIdeal.lit2t (2 * n.val + s.val) := by
  have h : (Cert.KernelIdeal.S3044x2.rowMajor (ix2 n s)).val = n.val * 2 + s.val := Shape.rowMajor_val_two _
  show Cert.KernelIdeal.lit2t (Cert.KernelIdeal.S3044x2.rowMajor (ix2 n s)).val = _
  rw [h, mul_comm]

theorem positions_at0 (n : Fin 3044) : positions (ix2 n 0) = lit4 n := by
  refine Eq.trans ?_ (lit_at lit4 n)
  pointwise [positions]

theorem positions_at1 (n : Fin 3044) : positions (ix2 n 1) = lit5 n := by
  refine Eq.trans ?_ (lit_at lit5 n)
  pointwise [positions]

theorem positions_eq : positions = fun i => Cert.KernelIdeal.lit2 (Cert.KernelIdeal.S3044x2.rowMajor i) := by
  funext i
  obtain ⟨n, s, rfl⟩ : ∃ (n : Fin 3044) (s : Fin 2), i = ix2 n s := ⟨i 0, i 1, funext fun a => by fin_cases a <;> rfl⟩
  rw [show Cert.KernelIdeal.lit2 (Cert.KernelIdeal.S3044x2.rowMajor (ix2 n s)) = _ from kernelAt n s]
  fin_cases s
  · exact (positions_at0 n).trans (pos_facts n.val n.isLt).1.symm
  · exact (positions_at1 n).trans (pos_facts n.val n.isLt).2.symm

end Cert.Proof.Band.Ref

end
-- ==== Proof.Finite.lean ====
/-
  The precondition, entry by entry: every entry of the arguments that make the hidden layer is a real.
-/
module

public import proofs.«01_k».proof.Defs
public import Idealize.ShloMosaic.Lib.ReduceAll
public import Idealize.ShloMosaic.Lib.Pointwise
public import Idealize.ShloMosaic.PureOps.Ideal.Laws

@[expose] public section

noncomputable section

namespace Cert.Proof.Band

open Idealize.ShloMosaic

instance preFacts : Cert.Pre_finite.Facts where
  bcast_S_S16x128x300 := by decide
  reducesTo_S16x128x300_S_d0_1_2 := by decide
  h_S_ := by decide
  bcast_S_S25x50 := by decide
  reducesTo_S25x50_S_d0_1 := by decide
  bcast_S_S650x300 := by decide
  reducesTo_S650x300_S_d0_1 := by decide
  bcast_S_S300 := by decide
  reducesTo_S300_S_d0 := by decide

theorem wordInf : Ideal.ofBits .f32 0x7F800000#32 = (⊤ : EReal) := by
  simp [Ideal.ofBits, Ideal.ieee]

/-- Where the test of one argument holds, its entries are reals. -/
theorem real_of_test {s : Shape} (axes : List (Fin s.rank)) (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant Cert.Pre_finite.S_ .f32 0x7F800000#32))) (constantI Cert.Pre_finite.S_ 1 1#1) hr hu j = 1#1) (i : s.Idx) :
    x i = (((x i : EReal).toReal : ℝ) : EReal) := by
  have h1 := Host.reduce_andi_all _ _ hr hu j h i
  have h2 : (Ideal.cmp .olt (max (x i : EReal) (-(x i : EReal))) (Ideal.ofBits .f32 0x7F800000#32)) = 1#1 := h1
  rw [wordInf] at h2
  refine (EReal.coe_toReal ?_ ?_).symm
  · intro e; rw [e] at h2; simp [Ideal.cmp] at h2
  · intro e; rw [e] at h2; simp [Ideal.cmp] at h2

/-- An `and` of two bits holds where both do. -/
theorem and_parts {a b : IVec Cert.Pre_finite.S_ 1} (h : andi a b = fun _ => 1#1) : a = (fun _ => 1#1) ∧ b = fun _ => 1#1 := by
  have hd : ∀ x y : BitVec 1, IntOp.andi x y = 1#1 → x = 1#1 ∧ y = 1#1 := by decide
  exact ⟨funext fun j => (hd _ _ (congrFun h j)).1, funext fun j => (hd _ _ (congrFun h j)).2⟩

/-- Every entry is a real. -/
def AllReal {s : Shape} (x : FVec Ideal s .f32) : Prop := ∀ i, x i = (((x i : EReal).toReal : ℝ) : EReal)

open Cert.Pre_finite Cert.Pre_finite.Facts in
theorem pre_real (a0 a1 a2 : FVec Ideal S16x128x300 .f32) (a3 : FVec Ideal S25x50 .f32) (a4 : FVec Ideal S650x300 .f32) (a5 a6 a7 : FVec Ideal S300 .f32)
    (a8 : FVec Ideal S300x1 .f32) (a9 : FVec Ideal S1 .f32) (h : fn (F := Ideal) a0 a1 a2 a3 a4 a5 a6 a7 a8 a9 = fun _ => 1#1) : AllReal a0 ∧ AllReal a1 ∧ AllReal a2 ∧ AllReal a3 ∧ AllReal a4 ∧ AllReal a5 := by
  unfold fn fn_part1 at h
  dsimp only at h
  obtain ⟨h, h5⟩ := and_parts h
  obtain ⟨h, h4⟩ := and_parts h
  obtain ⟨h, h3⟩ := and_parts h
  obtain ⟨h, h2⟩ := and_parts h
  obtain ⟨h0, h1⟩ := and_parts h
  exact ⟨real_of_test _ _ _ _ _ ix0 (congrFun h0 _), real_of_test _ _ _ _ _ ix0 (congrFun h1 _), real_of_test _ _ _ _ _ ix0 (congrFun h2 _), real_of_test _ _ _ _ _ ix0 (congrFun h3 _),
    real_of_test _ _ _ _ _ ix0 (congrFun h4 _), real_of_test _ _ _ _ _ ix0 (congrFun h5 _)⟩

end Cert.Proof.Band

end
-- ==== Proof.Agree.lean ====
/-
  Where the hidden layer is finite, the kernel and the reference end with the same results.
-/
module

public import proofs.«01_k».proof.Proof.Frames
public import proofs.«01_k».proof.Proof.RefFinal
public import proofs.«01_k».proof.Proof.Finite

@[expose] public section

set_option maxRecDepth 16384

noncomputable section

namespace Cert.Proof.Band

open Idealize.ShloMosaic Idealize.ShloMosaic.TcCoe Idealize.SL.Sem

section
open Cert.KernelIdeal Cert.KernelIdeal.Gen

variable (m : (ℓ : Loc nD τ sig) → Buf (Elt Ideal) ℓ)

/-- The scores of the arguments a device starts with. -/
def scoresOf (c : Dev nD) : FVec Ideal S16x3044 .f32 :=
  Ref.result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem kernel_scores (hp : Cert.Pre_KernelIdeal_finite m) (c : Dev nD) (G) : W5 m c G (Proc.devRef .tc main_v22) = scoresOf m c := by
  obtain ⟨h0, h1, h2, h3, h4, h5⟩ := pre_real _ _ _ _ _ _ _ _ _ _ (hp c)
  funext i
  obtain ⟨b, n, rfl⟩ : ∃ (b : Fin 16) (n : Fin 3044), i = ix2 b n := ⟨i 0, i 1, funext fun a => by fin_cases a <;> rfl⟩
  refine (kernel_real m c _ _ _ _ _ _ _ _ _ _ (fun b s i => h0 (ix3 b s i)) (fun b s i => h1 (ix3 b s i)) (fun b s i => h2 (ix3 b s i)) (fun u p => h3 (ix2 u p)) (fun i k => h4 (ix2 i k))
    (fun k => h5 (ix1 k)) (fun _ => rfl) (fun _ => rfl) (fun _ => rfl) rfl G b n).trans ?_
  exact (Ref.result_real _ _ _ _ _ _ _ _ _ _ _ _ _ _ _ _ _ _ _ _ (fun b s i => h0 (ix3 b s i)) (fun b s i => h1 (ix3 b s i)) (fun b s i => h2 (ix3 b s i)) (fun u p => h3 (ix2 u p)) (fun i k => h4 (ix2 i k))
    (fun k => h5 (ix1 k)) (fun _ => rfl) (fun _ => rfl) (fun _ => rfl) rfl b n).symm

/-- A run leaves an argument as it was. -/
theorem kept {r : PUnit × MemSt nD τ sig (Elt Ideal)} (h : QC m r) (c : Dev nD) (b : Ref sig .tc) (h1 : (b : DevRef τ sig).isScoped = false) (h2 : b ∉ wrA)
    (h3 : b ∉ [main_v18, main_v19, main_v20, main_v21, main_v22]) (h4 : b ≠ main_v19) (h5 : b ≠ main_c) : r.2.mem ((c.tc : Thread nD τ).loc b) = m ((c.tc : Thread nD τ).loc b) := by
  obtain ⟨G, hG⟩ := h.1 c
  exact (hG _ (mem_SB b h1 h4 h5)).trans ((W5_of m c G b h3).trans (W1_of m c b h2))

theorem kept_scores (hp : Cert.Pre_KernelIdeal_finite m) {r : PUnit × MemSt nD τ sig (Elt Ideal)} (h : QC m r) (c : Dev nD) : r.2.mem ((c.tc : Thread nD τ).loc main_v22) = scoresOf m c := by
  obtain ⟨G, hG⟩ := h.1 c
  exact (hG _ (mem_SB main_v22 rfl (by decide) (by decide))).trans (kernel_scores m hp c G)

theorem kept_positions {r : PUnit × MemSt nD τ sig (Elt Ideal)} (h : QC m r) (c : Dev nD) : r.2.mem ((c.tc : Thread nD τ).loc main_c_0) = fun i => lit2 (S3044x2.rowMajor i) := by
  obtain ⟨G, hG⟩ := h.1 c
  exact (hG _ (mem_SB main_c_0 rfl (by decide) (by decide))).trans ((W5_of m c G main_c_0 (by decide)).trans (W1_c0 m c))
end

theorem agree : Cert.algebraic_KernelIdeal_ReferenceIdeal_pre_finite := fun m g m' g' hp hm => by
  refine ⟨fun c => scoresOf m c, fun _ => fun i => Cert.KernelIdeal.lit2 (Cert.KernelIdeal.S3044x2.rowMajor i), ?_, ?_⟩
  · refine (θ_run _ _ _).mono (fun r h c => ?_) (run_main m g)
    exact ⟨kept_scores m hp h c, kept_positions m h c,
      kept m h c _ rfl (by decide) (by decide) (by decide) (by decide), kept m h c _ rfl (by decide) (by decide) (by decide) (by decide), kept m h c _ rfl (by decide) (by decide) (by decide) (by decide),
      kept m h c _ rfl (by decide) (by decide) (by decide) (by decide), kept m h c _ rfl (by decide) (by decide) (by decide) (by decide), kept m h c _ rfl (by decide) (by decide) (by decide) (by decide),
      kept m h c _ rfl (by decide) (by decide) (by decide) (by decide), kept m h c _ rfl (by decide) (by decide) (by decide) (by decide), kept m h c _ rfl (by decide) (by decide) (by decide) (by decide),
      kept m h c _ rfl (by decide) (by decide) (by decide) (by decide)⟩
  · refine (θ_run _ _ _).mono (fun r h c => ?_) (Cert.ReferenceIdeal.Value.run (F := Ideal) m' g')
    obtain ⟨e0, e1, e2, e3, e4, e5, e6, e7, e8, e9⟩ := hm c
    refine ⟨(h c).1.trans ((Ref.result_eq m' c).trans ?_), (h c).2.1.trans Ref.positions_eq, (h c).2.2⟩
    rw [e0, e1, e2, e3, e4, e5, e6, e7, e8, e9]
    rfl

end Cert.Proof.Band

end
-- ==== Proof.lean ====
module

public import proofs.«01_k».proof.Defs
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proof.Band.preFacts,
  Cert.Proof.Band.frame_Kernel, Cert.Proof.Band.frame_KernelIdeal, fun m ρ _ => Cert.Proof.Band.frame_KernelIdeal m ρ trivial,
  Cert.Proof.Band.frame_ReferenceIdeal, fun m ρ _ => Cert.Proof.Band.frame_ReferenceIdeal m ρ trivial,
  Cert.Proof.Band.preserves, Cert.Proof.Band.agree⟩

end Cert.Proof

end
